-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v286) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x1024 : Shape := ⟨3, ![2, 2048, 1024]⟩
abbrev S2048 : Shape := ⟨1, ![2048]⟩
abbrev S1024x1024 : Shape := ⟨2, ![1024, 1024]⟩
abbrev S1024 : Shape := ⟨1, ![1024]⟩
abbrev S64x32 : Shape := ⟨2, ![64, 32]⟩
abbrev S128x1 : Shape := ⟨2, ![128, 1]⟩
abbrev S4096x1024 : Shape := ⟨2, ![4096, 1024]⟩
abbrev S1x1024 : Shape := ⟨2, ![1, 1024]⟩
abbrev S256x1024 : Shape := ⟨2, ![256, 1024]⟩
abbrev S2x2048x16x64 : Shape := ⟨4, ![2, 2048, 16, 64]⟩
abbrev S2x16x2048x64 : Shape := ⟨4, ![2, 16, 2048, 64]⟩
abbrev S1x1x2048x64 : Shape := ⟨4, ![1, 1, 2048, 64]⟩
abbrev S2048x64 : Shape := ⟨2, ![2048, 64]⟩
abbrev S2048x32 : Shape := ⟨2, ![2048, 32]⟩
abbrev S2048x128 : Shape := ⟨2, ![2048, 128]⟩
abbrev S128x2048 : Shape := ⟨2, ![128, 2048]⟩
abbrev S128x32 : Shape := ⟨2, ![128, 32]⟩
abbrev S2048x1 : Shape := ⟨2, ![2048, 1]⟩
abbrev S128 : Shape := ⟨1, ![128]⟩
abbrev S1x128 : Shape := ⟨2, ![1, 128]⟩
abbrev S128x64 : Shape := ⟨2, ![128, 64]⟩

abbrev nBuf : Space → Nat
  | .hbm => 31
  | .vmem => 30
  | .smem => 0
  | _ => 0

abbrev bufTy : (tb : Table) → Fin (tcTables nBuf tb) → BufTy
  | .hbm, ⟨0, _⟩ => ⟨S2x2048x1024, .f32⟩
  | .hbm, ⟨1, _⟩ => ⟨S2048, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S64x32, .f32⟩
  | .hbm, ⟨11, _⟩ => ⟨S128x1, .i32⟩
  | .hbm, ⟨12, _⟩ => ⟨S4096x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S2x2048x16x64, .f32⟩
  | .hbm, ⟨20, _⟩ => ⟨S2x16x2048x64, .f32⟩
  | .hbm, ⟨21, _⟩ => ⟨S2x2048x16x64, .f32⟩
  | .hbm, ⟨22, _⟩ => ⟨S2x16x2048x64, .f32⟩
  | .hbm, ⟨23, _⟩ => ⟨S2x2048x16x64, .f32⟩
  | .hbm, ⟨24, _⟩ => ⟨S2x16x2048x64, .f32⟩
  | .hbm, ⟨25, _⟩ => ⟨S2x16x2048x64, .f32⟩
  | .hbm, ⟨26, _⟩ => ⟨S2x2048x16x64, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S2x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1x2048x64, .f32⟩
  | .local _ .vmem, ⟨15, _⟩ => ⟨S1x1x2048x64, .f32⟩
  | .local _ .vmem, ⟨16, _⟩ => ⟨S1x1x2048x64, .f32⟩
  | .local _ .vmem, ⟨17, _⟩ => ⟨S1x1x2048x64, .f32⟩
  | .local _ .vmem, ⟨18, _⟩ => ⟨S1x1x2048x64, .f32⟩
  | .local _ .vmem, ⟨19, _⟩ => ⟨S1x1x2048x64, .f32⟩
  | .local _ .vmem, ⟨20, _⟩ => ⟨S64x32, .f32⟩
  | .local _ .vmem, ⟨21, _⟩ => ⟨S128x1, .i32⟩
  | .local _ .vmem, ⟨22, _⟩ => ⟨S1x1x2048x64, .f32⟩
  | .local _ .vmem, ⟨23, _⟩ => ⟨S1x1x2048x64, .f32⟩
  | .local _ .vmem, ⟨24, _⟩ => ⟨S256x1024, .f32⟩
  | .local _ .vmem, ⟨25, _⟩ => ⟨S256x1024, .f32⟩
  | .local _ .vmem, ⟨26, _⟩ => ⟨S1024x1024, .f32⟩
  | .local _ .vmem, ⟨27, _⟩ => ⟨S1x1024, .f32⟩
  | .local _ .vmem, ⟨28, _⟩ => ⟨S256x1024, .f32⟩
  | .local _ .vmem, ⟨29, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![2, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1x2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S2x2048x1024 : Shape := ⟨3, ![2, 2048, 1024]⟩
abbrev S2048 : Shape := ⟨1, ![2048]⟩
abbrev S1024x1024 : Shape := ⟨2, ![1024, 1024]⟩
abbrev S1024 : Shape := ⟨1, ![1024]⟩
abbrev S64x32 : Shape := ⟨2, ![64, 32]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S32x2048x32 : Shape := ⟨3, ![32, 2048, 32]⟩
abbrev S_ : Shape := ⟨0, ![]⟩
abbrev S99 : Shape := ⟨1, ![99]⟩
abbrev S1 : Shape := ⟨1, ![1]⟩
abbrev S100 : Shape := ⟨1, ![100]⟩
abbrev S100x1 : Shape := ⟨2, ![100, 1]⟩
abbrev S32x100x32 : Shape := ⟨3, ![32, 100, 32]⟩
abbrev S32x2048 : Shape := ⟨2, ![32, 2048]⟩
abbrev S32x2048x1 : Shape := ⟨3, ![32, 2048, 1]⟩
abbrev S32x2048x100 : Shape := ⟨3, ![32, 2048, 100]⟩
abbrev S32x100 : Shape := ⟨2, ![32, 100]⟩
abbrev S32x1x100 : Shape := ⟨3, ![32, 1, 100]⟩
abbrev S1x1x100 : Shape := ⟨3, ![1, 1, 100]⟩
abbrev S32x100x1 : Shape := ⟨3, ![32, 100, 1]⟩
abbrev S32x100x64 : Shape := ⟨3, ![32, 100, 64]⟩
abbrev S32x100x2048 : Shape := ⟨3, ![32, 100, 2048]⟩

abbrev nBuf : Space → Nat
  | .hbm => 479
  | .vmem => 0
  | .smem => 0
  | _ => 0

abbrev hbmTy0_0 (i : Nat) : BufTy := match i % 128 with
  | 0 => ⟨S2x2048x1024, .f32⟩
  | 1 => ⟨S2048, .f32⟩
  | 2 => ⟨S1024x1024, .f32⟩
  | 3 => ⟨S1024, .f32⟩
  | 4 => ⟨S1024x1024, .f32⟩
  | 5 => ⟨S1024, .f32⟩
  | 6 => ⟨S1024x1024, .f32⟩
  | 7 => ⟨S1024, .f32⟩
  | 8 => ⟨S1024x1024, .f32⟩
  | 9 => ⟨S1024, .f32⟩
  | 10 => ⟨S64x32, .f32⟩
  | 11 => ⟨S2x2048x1024, .f32⟩
  | 12 => ⟨S1x1x1024, .f32⟩
  | 13 => ⟨S2x2048x1024, .f32⟩
  | 14 => ⟨S2x2048x1024, .f32⟩
  | 15 => ⟨S2x2048x16x64, .f32⟩
  | 16 => ⟨S2x16x2048x64, .f32⟩
  | 17 => ⟨S32x2048x64, .f32⟩
  | 18 => ⟨S2x2048x1024, .f32⟩
  | 19 => ⟨S1x1x1024, .f32⟩
  | 20 => ⟨S2x2048x1024, .f32⟩
  | 21 => ⟨S2x2048x1024, .f32⟩
  | 22 => ⟨S2x2048x16x64, .f32⟩
  | 23 => ⟨S2x16x2048x64, .f32⟩
  | 24 => ⟨S32x2048x64, .f32⟩
  | 25 => ⟨S2x2048x1024, .f32⟩
  | 26 => ⟨S1x1x1024, .f32⟩
  | 27 => ⟨S2x2048x1024, .f32⟩
  | 28 => ⟨S2x2048x1024, .f32⟩
  | 29 => ⟨S2x2048x16x64, .f32⟩
  | 30 => ⟨S2x16x2048x64, .f32⟩
  | 31 => ⟨S32x2048x64, .f32⟩
  | 32 => ⟨S32x2048x32, .f32⟩
  | 33 => ⟨S_, .f32⟩
  | 34 => ⟨S32x2048x32, .f32⟩
  | 35 => ⟨S32x2048x32, .i1⟩
  | 36 => ⟨S_, .f32⟩
  | 37 => ⟨S_, .f32⟩
  | 38 => ⟨S32x2048x32, .f32⟩
  | 39 => ⟨S32x2048x32, .f32⟩
  | 40 => ⟨S32x2048x32, .f32⟩
  | 41 => ⟨S32x2048x32, .f32⟩
  | 42 => ⟨S_, .i32⟩
  | 43 => ⟨S_, .i32⟩
  | 44 => ⟨S_, .f32⟩
  | 45 => ⟨S_, .f32⟩
  | 46 => ⟨S_, .f32⟩
  | 47 => ⟨S_, .f32⟩
  | 48 => ⟨S_, .f32⟩
  | 49 => ⟨S99, .f32⟩
  | 50 => ⟨S_, .f32⟩
  | 51 => ⟨S99, .f32⟩
  | 52 => ⟨S99, .f32⟩
  | 53 => ⟨S1, .f32⟩
  | 54 => ⟨S_, .f32⟩
  | 55 => ⟨S99, .f32⟩
  | 56 => ⟨S99, .f32⟩
  | 57 => ⟨S99, .f32⟩
  | 58 => ⟨S99, .f32⟩
  | 59 => ⟨S1, .f32⟩
  | 60 => ⟨S99, .f32⟩
  | 61 => ⟨S99, .f32⟩
  | 62 => ⟨S99, .f32⟩
  | 63 => ⟨S1, .f32⟩
  | 64 => ⟨S100, .f32⟩
  | 65 => ⟨S100, .i32⟩
  | 66 => ⟨S_, .i32⟩
  | 67 => ⟨S100, .i32⟩
  | 68 => ⟨S100, .i1⟩
  | 69 => ⟨S_, .i32⟩
  | 70 => ⟨S100, .i32⟩
  | 71 => ⟨S100, .i32⟩
  | 72 => ⟨S100, .i32⟩
  | 73 => ⟨S100x1, .i32⟩
  | 74 => ⟨S32x100x32, .f32⟩
  | 75 => ⟨S_, .i32⟩
  | 76 => ⟨S32x2048, .i32⟩
  | 77 => ⟨S32x2048x32, .f32⟩
  | 78 => ⟨S_, .f32⟩
  | 79 => ⟨S32x2048, .f32⟩
  | 80 => ⟨S32x2048x1, .f32⟩
  | 81 => ⟨S32x2048x100, .f32⟩
  | 82 => ⟨S_, .f32⟩
  | 83 => ⟨S32x2048x100, .f32⟩
  | 84 => ⟨S32x2048x100, .f32⟩
  | 85 => ⟨S32x2048x100, .f32⟩
  | 86 => ⟨S32x2048x100, .f32⟩
  | 87 => ⟨S32x100x32, .f32⟩
  | 88 => ⟨S_, .f32⟩
  | 89 => ⟨S32x100, .f32⟩
  | 90 => ⟨S32x1x100, .f32⟩
  | 91 => ⟨S32x2048x100, .f32⟩
  | 92 => ⟨S32x2048x100, .f32⟩
  | 93 => ⟨S32x2048x100, .i32⟩
  | 94 => ⟨S_, .f32⟩
  | 95 => ⟨S_, .i32⟩
  | 96 => ⟨S32x2048, .f32⟩
  | 97 => ⟨S32x2048, .i32⟩
  | 98 => ⟨S32x2048x1, .i32⟩
  | 99 => ⟨S1x1x100, .i32⟩
  | 100 => ⟨S32x2048x100, .i32⟩
  | 101 => ⟨S32x2048x100, .i32⟩
  | 102 => ⟨S32x2048x100, .i1⟩
  | 103 => ⟨S32x2048x100, .f32⟩
  | 104 => ⟨S_, .f32⟩
  | 105 => ⟨S32x100, .f32⟩
  | 106 => ⟨S_, .f32⟩
  | 107 => ⟨S32x100, .f32⟩
  | 108 => ⟨S32x100, .f32⟩
  | 109 => ⟨S32x100x32, .f32⟩
  | 110 => ⟨S32x100x1, .f32⟩
  | 111 => ⟨S32x100x32, .f32⟩
  | 112 => ⟨S32x100x32, .f32⟩
  | 113 => ⟨S32x2048x32, .f32⟩
  | 114 => ⟨S_, .f32⟩
  | 115 => ⟨S32x2048, .f32⟩
  | 116 => ⟨S32x2048x1, .f32⟩
  | 117 => ⟨S32x2048x100, .f32⟩
  | 118 => ⟨S_, .f32⟩
  | 119 => ⟨S32x2048x100, .f32⟩
  | 120 => ⟨S32x2048x100, .f32⟩
  | 121 => ⟨S32x2048x100, .f32⟩
  | 122 => ⟨S32x2048x100, .f32⟩
  | 123 => ⟨S32x100x32, .f32⟩
  | 124 => ⟨S_, .f32⟩
  | 125 => ⟨S32x100, .f32⟩
  | 126 => ⟨S32x1x100, .f32⟩
  | 127 => ⟨S32x2048x100, .f32⟩
  | _ => ⟨S2x2048x1024, .f32⟩

abbrev hbmTy0_1 (i : Nat) : BufTy := match i % 128 with
  | 0 => ⟨S32x2048x100, .f32⟩
  | 1 => ⟨S32x2048x100, .i32⟩
  | 2 => ⟨S_, .f32⟩
  | 3 => ⟨S_, .i32⟩
  | 4 => ⟨S32x2048, .f32⟩
  | 5 => ⟨S32x2048, .i32⟩
  | 6 => ⟨S32x2048x1, .i32⟩
  | 7 => ⟨S1x1x100, .i32⟩
  | 8 => ⟨S32x2048x100, .i32⟩
  | 9 => ⟨S32x2048x100, .i32⟩
  | 10 => ⟨S32x2048x100, .i1⟩
  | 11 => ⟨S32x2048x100, .f32⟩
  | 12 => ⟨S_, .f32⟩
  | 13 => ⟨S32x100, .f32⟩
  | 14 => ⟨S_, .f32⟩
  | 15 => ⟨S32x100, .f32⟩
  | 16 => ⟨S32x100, .f32⟩
  | 17 => ⟨S32x100x32, .f32⟩
  | 18 => ⟨S32x100x1, .f32⟩
  | 19 => ⟨S32x100x32, .f32⟩
  | 20 => ⟨S32x100x32, .f32⟩
  | 21 => ⟨S32x2048x32, .f32⟩
  | 22 => ⟨S_, .f32⟩
  | 23 => ⟨S32x2048, .f32⟩
  | 24 => ⟨S32x2048x1, .f32⟩
  | 25 => ⟨S32x2048x100, .f32⟩
  | 26 => ⟨S_, .f32⟩
  | 27 => ⟨S32x2048x100, .f32⟩
  | 28 => ⟨S32x2048x100, .f32⟩
  | 29 => ⟨S32x2048x100, .f32⟩
  | 30 => ⟨S32x2048x100, .f32⟩
  | 31 => ⟨S32x100x32, .f32⟩
  | 32 => ⟨S_, .f32⟩
  | 33 => ⟨S32x100, .f32⟩
  | 34 => ⟨S32x1x100, .f32⟩
  | 35 => ⟨S32x2048x100, .f32⟩
  | 36 => ⟨S32x2048x100, .f32⟩
  | 37 => ⟨S32x2048x100, .i32⟩
  | 38 => ⟨S_, .f32⟩
  | 39 => ⟨S_, .i32⟩
  | 40 => ⟨S32x2048, .f32⟩
  | 41 => ⟨S32x2048, .i32⟩
  | 42 => ⟨S32x2048x1, .i32⟩
  | 43 => ⟨S1x1x100, .i32⟩
  | 44 => ⟨S32x2048x100, .i32⟩
  | 45 => ⟨S32x2048x100, .i32⟩
  | 46 => ⟨S32x2048x100, .i1⟩
  | 47 => ⟨S32x2048x100, .f32⟩
  | 48 => ⟨S_, .f32⟩
  | 49 => ⟨S32x100, .f32⟩
  | 50 => ⟨S_, .f32⟩
  | 51 => ⟨S32x100, .f32⟩
  | 52 => ⟨S32x100, .f32⟩
  | 53 => ⟨S32x100x32, .f32⟩
  | 54 => ⟨S32x100x1, .f32⟩
  | 55 => ⟨S32x100x32, .f32⟩
  | 56 => ⟨S32x100x32, .f32⟩
  | 57 => ⟨S32x2048x32, .f32⟩
  | 58 => ⟨S_, .f32⟩
  | 59 => ⟨S32x2048, .f32⟩
  | 60 => ⟨S32x2048x1, .f32⟩
  | 61 => ⟨S32x2048x100, .f32⟩
  | 62 => ⟨S_, .f32⟩
  | 63 => ⟨S32x2048x100, .f32⟩
  | 64 => ⟨S32x2048x100, .f32⟩
  | 65 => ⟨S32x2048x100, .f32⟩
  | 66 => ⟨S32x2048x100, .f32⟩
  | 67 => ⟨S32x100x32, .f32⟩
  | 68 => ⟨S_, .f32⟩
  | 69 => ⟨S32x100, .f32⟩
  | 70 => ⟨S32x1x100, .f32⟩
  | 71 => ⟨S32x2048x100, .f32⟩
  | 72 => ⟨S32x2048x100, .f32⟩
  | 73 => ⟨S32x2048x100, .i32⟩
  | 74 => ⟨S_, .f32⟩
  | 75 => ⟨S_, .i32⟩
  | 76 => ⟨S32x2048, .f32⟩
  | 77 => ⟨S32x2048, .i32⟩
  | 78 => ⟨S32x2048x1, .i32⟩
  | 79 => ⟨S1x1x100, .i32⟩
  | 80 => ⟨S32x2048x100, .i32⟩
  | 81 => ⟨S32x2048x100, .i32⟩
  | 82 => ⟨S32x2048x100, .i1⟩
  | 83 => ⟨S32x2048x100, .f32⟩
  | 84 => ⟨S_, .f32⟩
  | 85 => ⟨S32x100, .f32⟩
  | 86 => ⟨S_, .f32⟩
  | 87 => ⟨S32x100, .f32⟩
  | 88 => ⟨S32x100, .f32⟩
  | 89 => ⟨S32x100x32, .f32⟩
  | 90 => ⟨S32x100x1, .f32⟩
  | 91 => ⟨S32x100x32, .f32⟩
  | 92 => ⟨S32x100x32, .f32⟩
  | 93 => ⟨S32x2048x32, .f32⟩
  | 94 => ⟨S_, .f32⟩
  | 95 => ⟨S32x2048, .f32⟩
  | 96 => ⟨S32x2048x1, .f32⟩
  | 97 => ⟨S32x2048x100, .f32⟩
  | 98 => ⟨S_, .f32⟩
  | 99 => ⟨S32x2048x100, .f32⟩
  | 100 => ⟨S32x2048x100, .f32⟩
  | 101 => ⟨S32x2048x100, .f32⟩
  | 102 => ⟨S32x2048x100, .f32⟩
  | 103 => ⟨S32x100x32, .f32⟩
  | 104 => ⟨S_, .f32⟩
  | 105 => ⟨S32x100, .f32⟩
  | 106 => ⟨S32x1x100, .f32⟩
  | 107 => ⟨S32x2048x100, .f32⟩
  | 108 => ⟨S32x2048x100, .f32⟩
  | 109 => ⟨S32x2048x100, .i32⟩
  | 110 => ⟨S_, .f32⟩
  | 111 => ⟨S_, .i32⟩
  | 112 => ⟨S32x2048, .f32⟩
  | 113 => ⟨S32x2048, .i32⟩
  | 114 => ⟨S32x2048x1, .i32⟩
  | 115 => ⟨S1x1x100, .i32⟩
  | 116 => ⟨S32x2048x100, .i32⟩
  | 117 => ⟨S32x2048x100, .i32⟩
  | 118 => ⟨S32x2048x100, .i1⟩
  | 119 => ⟨S32x2048x100, .f32⟩
  | 120 => ⟨S_, .f32⟩
  | 121 => ⟨S32x100, .f32⟩
  | 122 => ⟨S_, .f32⟩
  | 123 => ⟨S32x100, .f32⟩
  | 124 => ⟨S32x100, .f32⟩
  | 125 => ⟨S32x100x32, .f32⟩
  | 126 => ⟨S32x100x1, .f32⟩
  | 127 => ⟨S32x100x32, .f32⟩
  | _ => ⟨S2x2048x1024, .f32⟩

abbrev hbmTy0_2 (i : Nat) : BufTy := match i % 128 with
  | 0 => ⟨S32x100x32, .f32⟩
  | 1 => ⟨S32x2048x32, .f32⟩
  | 2 => ⟨S_, .f32⟩
  | 3 => ⟨S32x2048, .f32⟩
  | 4 => ⟨S32x2048x1, .f32⟩
  | 5 => ⟨S32x2048x100, .f32⟩
  | 6 => ⟨S_, .f32⟩
  | 7 => ⟨S32x2048x100, .f32⟩
  | 8 => ⟨S32x2048x100, .f32⟩
  | 9 => ⟨S32x2048x100, .f32⟩
  | 10 => ⟨S32x2048x100, .f32⟩
  | 11 => ⟨S32x100x32, .f32⟩
  | 12 => ⟨S_, .f32⟩
  | 13 => ⟨S32x100, .f32⟩
  | 14 => ⟨S32x1x100, .f32⟩
  | 15 => ⟨S32x2048x100, .f32⟩
  | 16 => ⟨S32x2048x100, .f32⟩
  | 17 => ⟨S32x2048x100, .i32⟩
  | 18 => ⟨S_, .f32⟩
  | 19 => ⟨S_, .i32⟩
  | 20 => ⟨S32x2048, .f32⟩
  | 21 => ⟨S32x2048, .i32⟩
  | 22 => ⟨S32x2048x1, .i32⟩
  | 23 => ⟨S1x1x100, .i32⟩
  | 24 => ⟨S32x2048x100, .i32⟩
  | 25 => ⟨S32x2048x100, .i32⟩
  | 26 => ⟨S32x2048x100, .i1⟩
  | 27 => ⟨S32x2048x100, .f32⟩
  | 28 => ⟨S_, .f32⟩
  | 29 => ⟨S32x100, .f32⟩
  | 30 => ⟨S_, .f32⟩
  | 31 => ⟨S32x100, .f32⟩
  | 32 => ⟨S32x100, .f32⟩
  | 33 => ⟨S32x100x32, .f32⟩
  | 34 => ⟨S32x100x1, .f32⟩
  | 35 => ⟨S32x100x32, .f32⟩
  | 36 => ⟨S32x100x32, .f32⟩
  | 37 => ⟨S32x2048x32, .f32⟩
  | 38 => ⟨S_, .f32⟩
  | 39 => ⟨S32x2048, .f32⟩
  | 40 => ⟨S32x2048x1, .f32⟩
  | 41 => ⟨S32x2048x100, .f32⟩
  | 42 => ⟨S_, .f32⟩
  | 43 => ⟨S32x2048x100, .f32⟩
  | 44 => ⟨S32x2048x100, .f32⟩
  | 45 => ⟨S32x2048x100, .f32⟩
  | 46 => ⟨S32x2048x100, .f32⟩
  | 47 => ⟨S32x100x32, .f32⟩
  | 48 => ⟨S_, .f32⟩
  | 49 => ⟨S32x100, .f32⟩
  | 50 => ⟨S32x1x100, .f32⟩
  | 51 => ⟨S32x2048x100, .f32⟩
  | 52 => ⟨S32x2048x100, .f32⟩
  | 53 => ⟨S32x2048x100, .i32⟩
  | 54 => ⟨S_, .f32⟩
  | 55 => ⟨S_, .i32⟩
  | 56 => ⟨S32x2048, .f32⟩
  | 57 => ⟨S32x2048, .i32⟩
  | 58 => ⟨S32x2048x1, .i32⟩
  | 59 => ⟨S1x1x100, .i32⟩
  | 60 => ⟨S32x2048x100, .i32⟩
  | 61 => ⟨S32x2048x100, .i32⟩
  | 62 => ⟨S32x2048x100, .i1⟩
  | 63 => ⟨S32x2048x100, .f32⟩
  | 64 => ⟨S_, .f32⟩
  | 65 => ⟨S32x100, .f32⟩
  | 66 => ⟨S_, .f32⟩
  | 67 => ⟨S32x100, .f32⟩
  | 68 => ⟨S32x100, .f32⟩
  | 69 => ⟨S32x100x32, .f32⟩
  | 70 => ⟨S32x100x1, .f32⟩
  | 71 => ⟨S32x100x32, .f32⟩
  | 72 => ⟨S32x100x32, .f32⟩
  | 73 => ⟨S32x2048x32, .f32⟩
  | 74 => ⟨S_, .f32⟩
  | 75 => ⟨S32x2048, .f32⟩
  | 76 => ⟨S32x2048x1, .f32⟩
  | 77 => ⟨S32x2048x100, .f32⟩
  | 78 => ⟨S_, .f32⟩
  | 79 => ⟨S32x2048x100, .f32⟩
  | 80 => ⟨S32x2048x100, .f32⟩
  | 81 => ⟨S32x2048x100, .f32⟩
  | 82 => ⟨S32x2048x100, .f32⟩
  | 83 => ⟨S32x100x32, .f32⟩
  | 84 => ⟨S_, .f32⟩
  | 85 => ⟨S32x100, .f32⟩
  | 86 => ⟨S32x1x100, .f32⟩
  | 87 => ⟨S32x2048x100, .f32⟩
  | 88 => ⟨S32x2048x100, .f32⟩
  | 89 => ⟨S32x2048x100, .i32⟩
  | 90 => ⟨S_, .f32⟩
  | 91 => ⟨S_, .i32⟩
  | 92 => ⟨S32x2048, .f32⟩
  | 93 => ⟨S32x2048, .i32⟩
  | 94 => ⟨S32x2048x1, .i32⟩
  | 95 => ⟨S1x1x100, .i32⟩
  | 96 => ⟨S32x2048x100, .i32⟩
  | 97 => ⟨S32x2048x100, .i32⟩
  | 98 => ⟨S32x2048x100, .i1⟩
  | 99 => ⟨S32x2048x100, .f32⟩
  | 100 => ⟨S_, .f32⟩
  | 101 => ⟨S32x100, .f32⟩
  | 102 => ⟨S_, .f32⟩
  | 103 => ⟨S32x100, .f32⟩
  | 104 => ⟨S32x100, .f32⟩
  | 105 => ⟨S32x100x32, .f32⟩
  | 106 => ⟨S32x100x1, .f32⟩
  | 107 => ⟨S32x100x32, .f32⟩
  | 108 => ⟨S32x100x32, .f32⟩
  | 109 => ⟨S32x2048x32, .f32⟩
  | 110 => ⟨S_, .f32⟩
  | 111 => ⟨S32x2048, .f32⟩
  | 112 => ⟨S32x2048x1, .f32⟩
  | 113 => ⟨S32x2048x100, .f32⟩
  | 114 => ⟨S_, .f32⟩
  | 115 => ⟨S32x2048x100, .f32⟩
  | 116 => ⟨S32x2048x100, .f32⟩
  | 117 => ⟨S32x2048x100, .f32⟩
  | 118 => ⟨S32x2048x100, .f32⟩
  | 119 => ⟨S32x100x32, .f32⟩
  | 120 => ⟨S_, .f32⟩
  | 121 => ⟨S32x100, .f32⟩
  | 122 => ⟨S32x1x100, .f32⟩
  | 123 => ⟨S32x2048x100, .f32⟩
  | 124 => ⟨S32x2048x100, .f32⟩
  | 125 => ⟨S32x2048x100, .i32⟩
  | 126 => ⟨S_, .f32⟩
  | 127 => ⟨S_, .i32⟩
  | _ => ⟨S2x2048x1024, .f32⟩

abbrev hbmTy0_3 (i : Nat) : BufTy := match i % 128 with
  | 0 => ⟨S32x2048, .f32⟩
  | 1 => ⟨S32x2048, .i32⟩
  | 2 => ⟨S32x2048x1, .i32⟩
  | 3 => ⟨S1x1x100, .i32⟩
  | 4 => ⟨S32x2048x100, .i32⟩
  | 5 => ⟨S32x2048x100, .i32⟩
  | 6 => ⟨S32x2048x100, .i1⟩
  | 7 => ⟨S32x2048x100, .f32⟩
  | 8 => ⟨S_, .f32⟩
  | 9 => ⟨S32x100, .f32⟩
  | 10 => ⟨S_, .f32⟩
  | 11 => ⟨S32x100, .f32⟩
  | 12 => ⟨S32x100, .f32⟩
  | 13 => ⟨S32x100x32, .f32⟩
  | 14 => ⟨S32x100x1, .f32⟩
  | 15 => ⟨S32x100x32, .f32⟩
  | 16 => ⟨S32x100x32, .f32⟩
  | 17 => ⟨S32x2048x32, .f32⟩
  | 18 => ⟨S_, .f32⟩
  | 19 => ⟨S32x2048, .f32⟩
  | 20 => ⟨S32x2048x1, .f32⟩
  | 21 => ⟨S32x2048x100, .f32⟩
  | 22 => ⟨S_, .f32⟩
  | 23 => ⟨S32x2048x100, .f32⟩
  | 24 => ⟨S32x2048x100, .f32⟩
  | 25 => ⟨S32x2048x100, .f32⟩
  | 26 => ⟨S32x2048x100, .f32⟩
  | 27 => ⟨S32x100x32, .f32⟩
  | 28 => ⟨S_, .f32⟩
  | 29 => ⟨S32x100, .f32⟩
  | 30 => ⟨S32x1x100, .f32⟩
  | 31 => ⟨S32x2048x100, .f32⟩
  | 32 => ⟨S32x2048x100, .f32⟩
  | 33 => ⟨S32x2048x100, .i32⟩
  | 34 => ⟨S_, .f32⟩
  | 35 => ⟨S_, .i32⟩
  | 36 => ⟨S32x2048, .f32⟩
  | 37 => ⟨S32x2048, .i32⟩
  | 38 => ⟨S32x2048x1, .i32⟩
  | 39 => ⟨S1x1x100, .i32⟩
  | 40 => ⟨S32x2048x100, .i32⟩
  | 41 => ⟨S32x2048x100, .i32⟩
  | 42 => ⟨S32x2048x100, .i1⟩
  | 43 => ⟨S32x2048x100, .f32⟩
  | 44 => ⟨S_, .f32⟩
  | 45 => ⟨S32x100, .f32⟩
  | 46 => ⟨S_, .f32⟩
  | 47 => ⟨S32x100, .f32⟩
  | 48 => ⟨S32x100, .f32⟩
  | 49 => ⟨S32x100x32, .f32⟩
  | 50 => ⟨S32x100x1, .f32⟩
  | 51 => ⟨S32x100x32, .f32⟩
  | 52 => ⟨S32x100x32, .f32⟩
  | 53 => ⟨S32x2048x1, .i32⟩
  | 54 => ⟨S1x1x100, .i32⟩
  | 55 => ⟨S32x2048x100, .i32⟩
  | 56 => ⟨S32x2048x100, .i32⟩
  | 57 => ⟨S32x2048x100, .i1⟩
  | 58 => ⟨S32x2048x100, .f32⟩
  | 59 => ⟨S_, .f32⟩
  | 60 => ⟨S32x100, .f32⟩
  | 61 => ⟨S_, .f32⟩
  | 62 => ⟨S32x100, .f32⟩
  | 63 => ⟨S32x100, .f32⟩
  | 64 => ⟨S32x100x64, .f32⟩
  | 65 => ⟨S32x100x1, .f32⟩
  | 66 => ⟨S32x100x64, .f32⟩
  | 67 => ⟨S32x100x64, .f32⟩
  | 68 => ⟨S32x100x2048, .f32⟩
  | 69 => ⟨S_, .f32⟩
  | 70 => ⟨S32x100x2048, .f32⟩
  | 71 => ⟨S32x100x2048, .f32⟩
  | 72 => ⟨S_, .f32⟩
  | 73 => ⟨S32x100, .f32⟩
  | 74 => ⟨S_, .f32⟩
  | 75 => ⟨S32x100, .f32⟩
  | 76 => ⟨S32x100, .f32⟩
  | 77 => ⟨S32x100x1, .f32⟩
  | 78 => ⟨S32x100x2048, .f32⟩
  | 79 => ⟨S32x100x2048, .f32⟩
  | 80 => ⟨S32x100x2048, .f32⟩
  | 81 => ⟨S_, .f32⟩
  | 82 => ⟨S32x100, .f32⟩
  | 83 => ⟨S32x100x1, .f32⟩
  | 84 => ⟨S32x100x2048, .f32⟩
  | 85 => ⟨S32x100x2048, .f32⟩
  | 86 => ⟨S32x100x64, .f32⟩
  | 87 => ⟨S32x2048x64, .f32⟩
  | 88 => ⟨S2x16x2048x64, .f32⟩
  | 89 => ⟨S2x2048x16x64, .f32⟩
  | 90 => ⟨S2x2048x1024, .f32⟩
  | 91 => ⟨S2x2048x1024, .f32⟩
  | 92 => ⟨S1x1x1024, .f32⟩
  | 93 => ⟨S2x2048x1024, .f32⟩
  | 94 => ⟨S2x2048x1024, .f32⟩
  | _ => ⟨S2x2048x1024, .f32⟩

abbrev hbmTy (i : Nat) : BufTy := match i / 128 with
  | 0 => hbmTy0_0 i
  | 1 => hbmTy0_1 i
  | 2 => hbmTy0_2 i
  | 3 => hbmTy0_3 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_v24 : Ref sig .tc := ⟨.hbm, 40, rfl⟩
abbrev main_v25 : Ref sig .tc := ⟨.hbm, 41, rfl⟩
abbrev main_c : Ref sig .tc := ⟨.hbm, 42, rfl⟩
abbrev main_c_2 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_cst : Ref sig .tc := ⟨.hbm, 47, rfl⟩
abbrev main_call1_v3 : Ref sig .tc := ⟨.hbm, 48, rfl⟩
abbrev main_call1_v4 : Ref sig .tc := ⟨.hbm, 49, rfl⟩
abbrev main_call1_cst_0 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_cst_1 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_v15 : Ref sig .tc := ⟨.hbm, 62, rfl⟩
abbrev main_call1_v16 : Ref sig .tc := ⟨.hbm, 63, rfl⟩
abbrev main_v26 : Ref sig .tc := ⟨.hbm, 64, rfl⟩
abbrev main_v27 : Ref sig .tc := ⟨.hbm, 65, rfl⟩
abbrev main_c_3 : Ref sig .tc := ⟨.hbm, 66, rfl⟩
abbrev main_v28 : Ref sig .tc := ⟨.hbm, 67, rfl⟩
abbrev main_v29 : Ref sig .tc := ⟨.hbm, 68, rfl⟩
abbrev main_c_4 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_c_5 : Ref sig .tc := ⟨.hbm, 75, rfl⟩
abbrev main_v35 : Ref sig .tc := ⟨.hbm, 76, rfl⟩
abbrev main_v36 : Ref sig .tc := ⟨.hbm, 77, rfl⟩
abbrev main_cst_6 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_7 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_8 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_call2_v0 : Ref sig .tc := ⟨.hbm, 93, rfl⟩
abbrev main_call2_cst : Ref sig .tc := ⟨.hbm, 94, rfl⟩
abbrev main_call2_c : Ref sig .tc := ⟨.hbm, 95, rfl⟩
abbrev main_call2_v1_0 : Ref sig .tc := ⟨.hbm, 96, rfl⟩
abbrev main_v49 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_v50 : Ref sig .tc := ⟨.hbm, 103, rfl⟩
abbrev main_cst_9 : Ref sig .tc := ⟨.hbm, 104, rfl⟩
abbrev main_v51 : Ref sig .tc := ⟨.hbm, 105, rfl⟩
abbrev main_cst_10 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_cst_11 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_cst_12 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_13 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_call4_v0 : Ref sig .tc := ⟨.hbm, 129, rfl⟩
abbrev main_call4_cst : Ref sig .tc := ⟨.hbm, 130, rfl⟩
abbrev main_call4_c : Ref sig .tc := ⟨.hbm, 131, rfl⟩
abbrev main_call4_v1_0 : Ref sig .tc := ⟨.hbm, 132, rfl⟩
abbrev main_v71 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_v72 : Ref sig .tc := ⟨.hbm, 139, rfl⟩
abbrev main_cst_14 : Ref sig .tc := ⟨.hbm, 140, rfl⟩
abbrev main_v73 : Ref sig .tc := ⟨.hbm, 141, rfl⟩
abbrev main_cst_15 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_cst_16 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_cst_17 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_cst_18 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_call6_v0 : Ref sig .tc := ⟨.hbm, 165, rfl⟩
abbrev main_call6_cst : Ref sig .tc := ⟨.hbm, 166, rfl⟩
abbrev main_call6_c : Ref sig .tc := ⟨.hbm, 167, rfl⟩
abbrev main_call6_v1_0 : Ref sig .tc := ⟨.hbm, 168, rfl⟩
abbrev main_v93 : Ref sig .tc := ⟨.hbm, 169, rfl⟩
abbrev main_call7_v0 : Ref sig .tc := ⟨.hbm, 170, rfl⟩
abbrev main_call7_v1 : Ref sig .tc := ⟨.hbm, 171, rfl⟩
abbrev main_call7_v2 : Ref sig .tc := ⟨.hbm, 172, rfl⟩
abbrev main_call7_v3 : Ref sig .tc := ⟨.hbm, 173, rfl⟩
abbrev main_call7_v4 : Ref sig .tc := ⟨.hbm, 174, rfl⟩
abbrev main_v94 : Ref sig .tc := ⟨.hbm, 175, rfl⟩
abbrev main_cst_19 : Ref sig .tc := ⟨.hbm, 176, rfl⟩
abbrev main_v95 : Ref sig .tc := ⟨.hbm, 177, rfl⟩
abbrev main_cst_20 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_cst_21 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_cst_22 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_cst_23 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_call8_v0 : Ref sig .tc := ⟨.hbm, 201, rfl⟩
abbrev main_call8_cst : Ref sig .tc := ⟨.hbm, 202, rfl⟩
abbrev main_call8_c : Ref sig .tc := ⟨.hbm, 203, rfl⟩
abbrev main_call8_v1_0 : Ref sig .tc := ⟨.hbm, 204, rfl⟩
abbrev main_v115 : Ref sig .tc := ⟨.hbm, 205, rfl⟩
abbrev main_call9_v0 : Ref sig .tc := ⟨.hbm, 206, rfl⟩
abbrev main_call9_v1 : Ref sig .tc := ⟨.hbm, 207, rfl⟩
abbrev main_call9_v2 : Ref sig .tc := ⟨.hbm, 208, rfl⟩
abbrev main_call9_v3 : Ref sig .tc := ⟨.hbm, 209, rfl⟩
abbrev main_call9_v4 : Ref sig .tc := ⟨.hbm, 210, rfl⟩
abbrev main_v116 : Ref sig .tc := ⟨.hbm, 211, rfl⟩
abbrev main_cst_24 : Ref sig .tc := ⟨.hbm, 212, rfl⟩
abbrev main_v117 : Ref sig .tc := ⟨.hbm, 213, rfl⟩
abbrev main_cst_25 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_cst_26 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_cst_27 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_cst_28 : Ref sig .tc := ⟨.hbm, 232, rfl⟩
abbrev main_v133 : Ref sig .tc := ⟨.hbm, 233, rfl⟩
abbrev main_v134 : Ref sig .tc := ⟨.hbm, 234, rfl⟩
abbrev main_v135 : Ref sig .tc := ⟨.hbm, 235, rfl⟩
abbrev main_v136 : Ref sig .tc := ⟨.hbm, 236, rfl⟩
abbrev main_call10_v0 : Ref sig .tc := ⟨.hbm, 237, rfl⟩
abbrev main_call10_cst : Ref sig .tc := ⟨.hbm, 238, rfl⟩
abbrev main_call10_c : Ref sig .tc := ⟨.hbm, 239, rfl⟩
abbrev main_call10_v1_0 : Ref sig .tc := ⟨.hbm, 240, rfl⟩
abbrev main_v137 : Ref sig .tc := ⟨.hbm, 241, rfl⟩
abbrev main_call11_v0 : Ref sig .tc := ⟨.hbm, 242, rfl⟩
abbrev main_call11_v1 : Ref sig .tc := ⟨.hbm, 243, rfl⟩
abbrev main_call11_v2 : Ref sig .tc := ⟨.hbm, 244, rfl⟩
abbrev main_call11_v3 : Ref sig .tc := ⟨.hbm, 245, rfl⟩
abbrev main_call11_v4 : Ref sig .tc := ⟨.hbm, 246, rfl⟩
abbrev main_v138 : Ref sig .tc := ⟨.hbm, 247, rfl⟩
abbrev main_cst_29 : Ref sig .tc := ⟨.hbm, 248, rfl⟩
abbrev main_v139 : Ref sig .tc := ⟨.hbm, 249, rfl⟩
abbrev main_cst_30 : Ref sig .tc := ⟨.hbm, 250, rfl⟩
abbrev main_v140 : Ref sig .tc := ⟨.hbm, 251, rfl⟩
abbrev main_v141 : Ref sig .tc := ⟨.hbm, 252, rfl⟩
abbrev main_v142 : Ref sig .tc := ⟨.hbm, 253, rfl⟩
abbrev main_v143 : Ref sig .tc := ⟨.hbm, 254, rfl⟩
abbrev main_v144 : Ref sig .tc := ⟨.hbm, 255, rfl⟩
abbrev main_v145 : Ref sig .tc := ⟨.hbm, 256, rfl⟩
abbrev main_v146 : Ref sig .tc := ⟨.hbm, 257, rfl⟩
abbrev main_cst_31 : Ref sig .tc := ⟨.hbm, 258, rfl⟩
abbrev main_v147 : Ref sig .tc := ⟨.hbm, 259, rfl⟩
abbrev main_v148 : Ref sig .tc := ⟨.hbm, 260, rfl⟩
abbrev main_v149 : Ref sig .tc := ⟨.hbm, 261, rfl⟩
abbrev main_cst_32 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_v153 : Ref sig .tc := ⟨.hbm, 266, rfl⟩
abbrev main_v154 : Ref sig .tc := ⟨.hbm, 267, rfl⟩
abbrev main_cst_33 : Ref sig .tc := ⟨.hbm, 268, rfl⟩
abbrev main_v155 : Ref sig .tc := ⟨.hbm, 269, rfl⟩
abbrev main_v156 : Ref sig .tc := ⟨.hbm, 270, rfl⟩
abbrev main_v157 : Ref sig .tc := ⟨.hbm, 271, rfl⟩
abbrev main_v158 : Ref sig .tc := ⟨.hbm, 272, rfl⟩
abbrev main_call12_v0 : Ref sig .tc := ⟨.hbm, 273, rfl⟩
abbrev main_call12_cst : Ref sig .tc := ⟨.hbm, 274, rfl⟩
abbrev main_call12_c : Ref sig .tc := ⟨.hbm, 275, rfl⟩
abbrev main_call12_v1_0 : Ref sig .tc := ⟨.hbm, 276, rfl⟩
abbrev main_v159 : Ref sig .tc := ⟨.hbm, 277, rfl⟩
abbrev main_call13_v0 : Ref sig .tc := ⟨.hbm, 278, rfl⟩
abbrev main_call13_v1 : Ref sig .tc := ⟨.hbm, 279, rfl⟩
abbrev main_call13_v2 : Ref sig .tc := ⟨.hbm, 280, rfl⟩
abbrev main_call13_v3 : Ref sig .tc := ⟨.hbm, 281, rfl⟩
abbrev main_call13_v4 : Ref sig .tc := ⟨.hbm, 282, rfl⟩
abbrev main_v160 : Ref sig .tc := ⟨.hbm, 283, rfl⟩
abbrev main_cst_34 : Ref sig .tc := ⟨.hbm, 284, rfl⟩
abbrev main_v161 : Ref sig .tc := ⟨.hbm, 285, rfl⟩
abbrev main_cst_35 : Ref sig .tc := ⟨.hbm, 286, rfl⟩
abbrev main_v162 : Ref sig .tc := ⟨.hbm, 287, rfl⟩
abbrev main_v163 : Ref sig .tc := ⟨.hbm, 288, rfl⟩
abbrev main_v164 : Ref sig .tc := ⟨.hbm, 289, rfl⟩
abbrev main_v165 : Ref sig .tc := ⟨.hbm, 290, rfl⟩
abbrev main_v166 : Ref sig .tc := ⟨.hbm, 291, rfl⟩
abbrev main_v167 : Ref sig .tc := ⟨.hbm, 292, rfl⟩
abbrev main_v168 : Ref sig .tc := ⟨.hbm, 293, rfl⟩
abbrev main_cst_36 : Ref sig .tc := ⟨.hbm, 294, rfl⟩
abbrev main_v169 : Ref sig .tc := ⟨.hbm, 295, rfl⟩
abbrev main_v170 : Ref sig .tc := ⟨.hbm, 296, rfl⟩
abbrev main_v171 : Ref sig .tc := ⟨.hbm, 297, rfl⟩
abbrev main_cst_37 : Ref sig .tc := ⟨.hbm, 298, rfl⟩
abbrev main_v172 : Ref sig .tc := ⟨.hbm, 299, rfl⟩
abbrev main_v173 : Ref sig .tc := ⟨.hbm, 300, rfl⟩
abbrev main_v174 : Ref sig .tc := ⟨.hbm, 301, rfl⟩
abbrev main_v175 : Ref sig .tc := ⟨.hbm, 302, rfl⟩
abbrev main_v176 : Ref sig .tc := ⟨.hbm, 303, rfl⟩
abbrev main_cst_38 : Ref sig .tc := ⟨.hbm, 304, rfl⟩
abbrev main_v177 : Ref sig .tc := ⟨.hbm, 305, rfl⟩
abbrev main_v178 : Ref sig .tc := ⟨.hbm, 306, rfl⟩
abbrev main_v179 : Ref sig .tc := ⟨.hbm, 307, rfl⟩
abbrev main_v180 : Ref sig .tc := ⟨.hbm, 308, rfl⟩
abbrev main_call14_v0 : Ref sig .tc := ⟨.hbm, 309, rfl⟩
abbrev main_call14_cst : Ref sig .tc := ⟨.hbm, 310, rfl⟩
abbrev main_call14_c : Ref sig .tc := ⟨.hbm, 311, rfl⟩
abbrev main_call14_v1_0 : Ref sig .tc := ⟨.hbm, 312, rfl⟩
abbrev main_v181 : Ref sig .tc := ⟨.hbm, 313, rfl⟩
abbrev main_call15_v0 : Ref sig .tc := ⟨.hbm, 314, rfl⟩
abbrev main_call15_v1 : Ref sig .tc := ⟨.hbm, 315, rfl⟩
abbrev main_call15_v2 : Ref sig .tc := ⟨.hbm, 316, rfl⟩
abbrev main_call15_v3 : Ref sig .tc := ⟨.hbm, 317, rfl⟩
abbrev main_call15_v4 : Ref sig .tc := ⟨.hbm, 318, rfl⟩
abbrev main_v182 : Ref sig .tc := ⟨.hbm, 319, rfl⟩
abbrev main_cst_39 : Ref sig .tc := ⟨.hbm, 320, rfl⟩
abbrev main_v183 : Ref sig .tc := ⟨.hbm, 321, rfl⟩
abbrev main_cst_40 : Ref sig .tc := ⟨.hbm, 322, rfl⟩
abbrev main_v184 : Ref sig .tc := ⟨.hbm, 323, rfl⟩
abbrev main_v185 : Ref sig .tc := ⟨.hbm, 324, rfl⟩
abbrev main_v186 : Ref sig .tc := ⟨.hbm, 325, rfl⟩
abbrev main_v187 : Ref sig .tc := ⟨.hbm, 326, rfl⟩
abbrev main_v188 : Ref sig .tc := ⟨.hbm, 327, rfl⟩
abbrev main_v189 : Ref sig .tc := ⟨.hbm, 328, rfl⟩
abbrev main_v190 : Ref sig .tc := ⟨.hbm, 329, rfl⟩
abbrev main_cst_41 : Ref sig .tc := ⟨.hbm, 330, rfl⟩
abbrev main_v191 : Ref sig .tc := ⟨.hbm, 331, rfl⟩
abbrev main_v192 : Ref sig .tc := ⟨.hbm, 332, rfl⟩
abbrev main_v193 : Ref sig .tc := ⟨.hbm, 333, rfl⟩
abbrev main_cst_42 : Ref sig .tc := ⟨.hbm, 334, rfl⟩
abbrev main_v194 : Ref sig .tc := ⟨.hbm, 335, rfl⟩
abbrev main_v195 : Ref sig .tc := ⟨.hbm, 336, rfl⟩
abbrev main_v196 : Ref sig .tc := ⟨.hbm, 337, rfl⟩
abbrev main_v197 : Ref sig .tc := ⟨.hbm, 338, rfl⟩
abbrev main_v198 : Ref sig .tc := ⟨.hbm, 339, rfl⟩
abbrev main_cst_43 : Ref sig .tc := ⟨.hbm, 340, rfl⟩
abbrev main_v199 : Ref sig .tc := ⟨.hbm, 341, rfl⟩
abbrev main_v200 : Ref sig .tc := ⟨.hbm, 342, rfl⟩
abbrev main_v201 : Ref sig .tc := ⟨.hbm, 343, rfl⟩
abbrev main_v202 : Ref sig .tc := ⟨.hbm, 344, rfl⟩
abbrev main_call16_v0 : Ref sig .tc := ⟨.hbm, 345, rfl⟩
abbrev main_call16_cst : Ref sig .tc := ⟨.hbm, 346, rfl⟩
abbrev main_call16_c : Ref sig .tc := ⟨.hbm, 347, rfl⟩
abbrev main_call16_v1_0 : Ref sig .tc := ⟨.hbm, 348, rfl⟩
abbrev main_v203 : Ref sig .tc := ⟨.hbm, 349, rfl⟩
abbrev main_call17_v0 : Ref sig .tc := ⟨.hbm, 350, rfl⟩
abbrev main_call17_v1 : Ref sig .tc := ⟨.hbm, 351, rfl⟩
abbrev main_call17_v2 : Ref sig .tc := ⟨.hbm, 352, rfl⟩
abbrev main_call17_v3 : Ref sig .tc := ⟨.hbm, 353, rfl⟩
abbrev main_call17_v4 : Ref sig .tc := ⟨.hbm, 354, rfl⟩
abbrev main_v204 : Ref sig .tc := ⟨.hbm, 355, rfl⟩
abbrev main_cst_44 : Ref sig .tc := ⟨.hbm, 356, rfl⟩
abbrev main_v205 : Ref sig .tc := ⟨.hbm, 357, rfl⟩
abbrev main_cst_45 : Ref sig .tc := ⟨.hbm, 358, rfl⟩
abbrev main_v206 : Ref sig .tc := ⟨.hbm, 359, rfl⟩
abbrev main_v207 : Ref sig .tc := ⟨.hbm, 360, rfl⟩
abbrev main_v208 : Ref sig .tc := ⟨.hbm, 361, rfl⟩
abbrev main_v209 : Ref sig .tc := ⟨.hbm, 362, rfl⟩
abbrev main_v210 : Ref sig .tc := ⟨.hbm, 363, rfl⟩
abbrev main_v211 : Ref sig .tc := ⟨.hbm, 364, rfl⟩
abbrev main_v212 : Ref sig .tc := ⟨.hbm, 365, rfl⟩
abbrev main_cst_46 : Ref sig .tc := ⟨.hbm, 366, rfl⟩
abbrev main_v213 : Ref sig .tc := ⟨.hbm, 367, rfl⟩
abbrev main_v214 : Ref sig .tc := ⟨.hbm, 368, rfl⟩
abbrev main_v215 : Ref sig .tc := ⟨.hbm, 369, rfl⟩
abbrev main_cst_47 : Ref sig .tc := ⟨.hbm, 370, rfl⟩
abbrev main_v216 : Ref sig .tc := ⟨.hbm, 371, rfl⟩
abbrev main_v217 : Ref sig .tc := ⟨.hbm, 372, rfl⟩
abbrev main_v218 : Ref sig .tc := ⟨.hbm, 373, rfl⟩
abbrev main_v219 : Ref sig .tc := ⟨.hbm, 374, rfl⟩
abbrev main_v220 : Ref sig .tc := ⟨.hbm, 375, rfl⟩
abbrev main_cst_48 : Ref sig .tc := ⟨.hbm, 376, rfl⟩
abbrev main_v221 : Ref sig .tc := ⟨.hbm, 377, rfl⟩
abbrev main_v222 : Ref sig .tc := ⟨.hbm, 378, rfl⟩
abbrev main_v223 : Ref sig .tc := ⟨.hbm, 379, rfl⟩
abbrev main_v224 : Ref sig .tc := ⟨.hbm, 380, rfl⟩
abbrev main_call18_v0 : Ref sig .tc := ⟨.hbm, 381, rfl⟩
abbrev main_call18_cst : Ref sig .tc := ⟨.hbm, 382, rfl⟩
abbrev main_call18_c : Ref sig .tc := ⟨.hbm, 383, rfl⟩
abbrev main_call18_v1_0 : Ref sig .tc := ⟨.hbm, 384, rfl⟩
abbrev main_v225 : Ref sig .tc := ⟨.hbm, 385, rfl⟩
abbrev main_call19_v0 : Ref sig .tc := ⟨.hbm, 386, rfl⟩
abbrev main_call19_v1 : Ref sig .tc := ⟨.hbm, 387, rfl⟩
abbrev main_call19_v2 : Ref sig .tc := ⟨.hbm, 388, rfl⟩
abbrev main_call19_v3 : Ref sig .tc := ⟨.hbm, 389, rfl⟩
abbrev main_call19_v4 : Ref sig .tc := ⟨.hbm, 390, rfl⟩
abbrev main_v226 : Ref sig .tc := ⟨.hbm, 391, rfl⟩
abbrev main_cst_49 : Ref sig .tc := ⟨.hbm, 392, rfl⟩
abbrev main_v227 : Ref sig .tc := ⟨.hbm, 393, rfl⟩
abbrev main_cst_50 : Ref sig .tc := ⟨.hbm, 394, rfl⟩
abbrev main_v228 : Ref sig .tc := ⟨.hbm, 395, rfl⟩
abbrev main_v229 : Ref sig .tc := ⟨.hbm, 396, rfl⟩
abbrev main_v230 : Ref sig .tc := ⟨.hbm, 397, rfl⟩
abbrev main_v231 : Ref sig .tc := ⟨.hbm, 398, rfl⟩
abbrev main_v232 : Ref sig .tc := ⟨.hbm, 399, rfl⟩
abbrev main_v233 : Ref sig .tc := ⟨.hbm, 400, rfl⟩
abbrev main_v234 : Ref sig .tc := ⟨.hbm, 401, rfl⟩
abbrev main_cst_51 : Ref sig .tc := ⟨.hbm, 402, rfl⟩
abbrev main_v235 : Ref sig .tc := ⟨.hbm, 403, rfl⟩
abbrev main_v236 : Ref sig .tc := ⟨.hbm, 404, rfl⟩
abbrev main_v237 : Ref sig .tc := ⟨.hbm, 405, rfl⟩
abbrev main_cst_52 : Ref sig .tc := ⟨.hbm, 406, rfl⟩
abbrev main_v238 : Ref sig .tc := ⟨.hbm, 407, rfl⟩
abbrev main_v239 : Ref sig .tc := ⟨.hbm, 408, rfl⟩
abbrev main_v240 : Ref sig .tc := ⟨.hbm, 409, rfl⟩
abbrev main_v241 : Ref sig .tc := ⟨.hbm, 410, rfl⟩
abbrev main_v242 : Ref sig .tc := ⟨.hbm, 411, rfl⟩
abbrev main_cst_53 : Ref sig .tc := ⟨.hbm, 412, rfl⟩
abbrev main_v243 : Ref sig .tc := ⟨.hbm, 413, rfl⟩
abbrev main_v244 : Ref sig .tc := ⟨.hbm, 414, rfl⟩
abbrev main_v245 : Ref sig .tc := ⟨.hbm, 415, rfl⟩
abbrev main_v246 : Ref sig .tc := ⟨.hbm, 416, rfl⟩
abbrev main_call20_v0 : Ref sig .tc := ⟨.hbm, 417, rfl⟩
abbrev main_call20_cst : Ref sig .tc := ⟨.hbm, 418, rfl⟩
abbrev main_call20_c : Ref sig .tc := ⟨.hbm, 419, rfl⟩
abbrev main_call20_v1_0 : Ref sig .tc := ⟨.hbm, 420, rfl⟩
abbrev main_v247 : Ref sig .tc := ⟨.hbm, 421, rfl⟩
abbrev main_call21_v0 : Ref sig .tc := ⟨.hbm, 422, rfl⟩
abbrev main_call21_v1 : Ref sig .tc := ⟨.hbm, 423, rfl⟩
abbrev main_call21_v2 : Ref sig .tc := ⟨.hbm, 424, rfl⟩
abbrev main_call21_v3 : Ref sig .tc := ⟨.hbm, 425, rfl⟩
abbrev main_call21_v4 : Ref sig .tc := ⟨.hbm, 426, rfl⟩
abbrev main_v248 : Ref sig .tc := ⟨.hbm, 427, rfl⟩
abbrev main_cst_54 : Ref sig .tc := ⟨.hbm, 428, rfl⟩
abbrev main_v249 : Ref sig .tc := ⟨.hbm, 429, rfl⟩
abbrev main_cst_55 : Ref sig .tc := ⟨.hbm, 430, rfl⟩
abbrev main_v250 : Ref sig .tc := ⟨.hbm, 431, rfl⟩
abbrev main_v251 : Ref sig .tc := ⟨.hbm, 432, rfl⟩
abbrev main_v252 : Ref sig .tc := ⟨.hbm, 433, rfl⟩
abbrev main_v253 : Ref sig .tc := ⟨.hbm, 434, rfl⟩
abbrev main_v254 : Ref sig .tc := ⟨.hbm, 435, rfl⟩
abbrev main_v255 : Ref sig .tc := ⟨.hbm, 436, rfl⟩
abbrev main_call22_v0 : Ref sig .tc := ⟨.hbm, 437, rfl⟩
abbrev main_call22_v1 : Ref sig .tc := ⟨.hbm, 438, rfl⟩
abbrev main_call22_v2 : Ref sig .tc := ⟨.hbm, 439, rfl⟩
abbrev main_call22_v3 : Ref sig .tc := ⟨.hbm, 440, rfl⟩
abbrev main_call22_v4 : Ref sig .tc := ⟨.hbm, 441, rfl⟩
abbrev main_v256 : Ref sig .tc := ⟨.hbm, 442, rfl⟩
abbrev main_cst_56 : Ref sig .tc := ⟨.hbm, 443, rfl⟩
abbrev main_v257 : Ref sig .tc := ⟨.hbm, 444, rfl⟩
abbrev main_cst_57 : Ref sig .tc := ⟨.hbm, 445, rfl⟩
abbrev main_v258 : Ref sig .tc := ⟨.hbm, 446, rfl⟩
abbrev main_v259 : Ref sig .tc := ⟨.hbm, 447, rfl⟩
abbrev main_v260 : Ref sig .tc := ⟨.hbm, 448, rfl⟩
abbrev main_v261 : Ref sig .tc := ⟨.hbm, 449, rfl⟩
abbrev main_v262 : Ref sig .tc := ⟨.hbm, 450, rfl⟩
abbrev main_v263 : Ref sig .tc := ⟨.hbm, 451, rfl⟩
abbrev main_v264 : Ref sig .tc := ⟨.hbm, 452, rfl⟩
abbrev main_cst_58 : Ref sig .tc := ⟨.hbm, 453, rfl⟩
abbrev main_v265 : Ref sig .tc := ⟨.hbm, 454, rfl⟩
abbrev main_v266 : Ref sig .tc := ⟨.hbm, 455, rfl⟩
abbrev main_cst_59 : Ref sig .tc := ⟨.hbm, 456, rfl⟩
abbrev main_v267 : Ref sig .tc := ⟨.hbm, 457, rfl⟩
abbrev main_cst_60 : Ref sig .tc := ⟨.hbm, 458, rfl⟩
abbrev main_v268 : Ref sig .tc := ⟨.hbm, 459, rfl⟩
abbrev main_v269 : Ref sig .tc := ⟨.hbm, 460, rfl⟩
abbrev main_v270 : Ref sig .tc := ⟨.hbm, 461, rfl⟩
abbrev main_v271 : Ref sig .tc := ⟨.hbm, 462, rfl⟩
abbrev main_v272 : Ref sig .tc := ⟨.hbm, 463, rfl⟩
abbrev main_v273 : Ref sig .tc := ⟨.hbm, 464, rfl⟩
abbrev main_cst_61 : Ref sig .tc := ⟨.hbm, 465, rfl⟩
abbrev main_v274 : Ref sig .tc := ⟨.hbm, 466, rfl⟩
abbrev main_v275 : Ref sig .tc := ⟨.hbm, 467, rfl⟩
abbrev main_v276 : Ref sig .tc := ⟨.hbm, 468, rfl⟩
abbrev main_v277 : Ref sig .tc := ⟨.hbm, 469, rfl⟩
abbrev main_v278 : Ref sig .tc := ⟨.hbm, 470, rfl⟩
abbrev main_v279 : Ref sig .tc := ⟨.hbm, 471, rfl⟩
abbrev main_v280 : Ref sig .tc := ⟨.hbm, 472, rfl⟩
abbrev main_v281 : Ref sig .tc := ⟨.hbm, 473, rfl⟩
abbrev main_v282 : Ref sig .tc := ⟨.hbm, 474, rfl⟩
abbrev main_v283 : Ref sig .tc := ⟨.hbm, 475, rfl⟩
abbrev main_v284 : Ref sig .tc := ⟨.hbm, 476, rfl⟩
abbrev main_v285 : Ref sig .tc := ⟨.hbm, 477, rfl⟩
abbrev main_v286 : Ref sig .tc := ⟨.hbm, 478, rfl⟩

abbrev nD : Nat := 1
abbrev τ : Topo := Topo.v7x

variable {F : FTy → Type} [FloatOps F]
-- ==== Proof.RefTerms.lean ====
module

public import proofs.«01_k».proof.Proof.Gen.ReferenceIdeal

/-! The reference's mathematics as named terms over the host operations: the projections, the sign codes, the
    initial centroids, one step of the clustering, the attention of the clusters and the output projection. -/

@[expose] public section

noncomputable section

namespace Cert.ReferenceIdeal.Terms

open Cert.ReferenceIdeal Cert.ReferenceIdeal.Gen Idealize.ShloMosaic Idealize.SL.Sem

variable {F : FTy → Type} [FloatOps F]

/-- A dense layer over the whole batch: `x W + b`. -/
def dense (x : FVec F S2x2048x1024 .f32) (w : FVec F S1024x1024 .f32) (b : FVec F S1024 .f32) : FVec F S2x2048x1024 .f32 :=
  addf (Host.dotGeneral dot_S2x2048x1024_S1024x1024_S2x2048x1024_2_0_01_1_n_n none x w)
    (broadcastInDim S2x2048x1024 ![0, 1, 2] bcast_S1x1x1024_S2x2048x1024_0_1_2 (broadcastInDim S1x1x1024 ![2] bcast_S1024_S1x1x1024_2 b))

/-- The rows of a dense layer split into heads: head `b * 16 + h` holds the columns `64 h … 64 h + 63` of batch `b`. -/
def heads (y : FVec F S2x2048x1024 .f32) : FVec F S32x2048x64 .f32 :=
  shapeCast S32x2048x64 (transpose S2x16x2048x64 [0, 2, 1, 3] (shapeCast S2x2048x16x64 y shapeCasts_S2x2048x1024_S2x2048x16x64)
    transposes_S2x2048x16x64_S2x16x2048x64_0_2_1_3) shapeCasts_S2x16x2048x64_S32x2048x64

/-- The heads put back side by side. -/
def unheads (o : FVec F S32x2048x64 .f32) : FVec F S2x2048x1024 .f32 :=
  shapeCast S2x2048x1024 (transpose S2x2048x16x64 [0, 2, 1, 3] (shapeCast S2x16x2048x64 o shapeCasts_S32x2048x64_S2x16x2048x64)
    transposes_S2x16x2048x64_S2x2048x16x64_0_2_1_3) shapeCasts_S2x2048x16x64_S2x2048x1024

/-- The sign codes of the queries: `1` where the projection is positive and `-1` elsewhere. -/
def codes (q : FVec F S32x2048x64 .f32) (p : FVec F S64x32 .f32) : FVec F S32x2048x32 .f32 :=
  select (cmpf .ogt (Host.dotGeneral dot_S32x2048x64_S64x32_S32x2048x32_2_0_01_1_n_n none q p)
      (broadcastInDim S32x2048x32 ![] bcast_S_S32x2048x32 (constant S_ .f32 0x00000000#32)))
    (broadcastInDim S32x2048x32 ![] bcast_S_S32x2048x32 (constant S_ .f32 0x3F800000#32))
    (broadcastInDim S32x2048x32 ![] bcast_S_S32x2048x32 (constant S_ .f32 0xBF800000#32))

/-- The fractions `i / 99` for `i < 99`. -/
def fractions : FVec F S99 .f32 :=
  Host.divf (sitofp .f32 (iotaInDim S99 32 0)) (broadcastInDim S99 ![] bcast_S_S99 (constant S_ .f32 0x42C60000#32))

/-- The first ninety-nine points of the even spacing from `0` to `2047`. -/
def points : FVec F S99 .f32 :=
  addf (mulf (broadcastInDim S99 ![0] bcast_S1_S99_0 (shapeCast S1 (sitofp .f32 (constantI S_ 32 0#32) : FVec F S_ .f32) shapeCasts_S_S1))
      (subf (broadcastInDim S99 ![] bcast_S_S99 (constant S_ .f32 0x3F800000#32)) fractions))
    (mulf (broadcastInDim S99 ![0] bcast_S1_S99_0 (shapeCast S1 (sitofp .f32 (constantI S_ 32 2047#32) : FVec F S_ .f32) shapeCasts_S_S1)) fractions)

/-- The last point of the spacing, `2047`. -/
def lastPoint : FVec F S1 .f32 := broadcastInDim S1 ![] bcast_S_S1 (sitofp .f32 (constantI S_ 32 2047#32) : FVec F S_ .f32)

/-- A hundred points, the last one apart, rounded towards zero. -/
def rowsOf (a : FVec F S99 .f32) (b : FVec F S1 .f32) : IVec S100 32 :=
  fptosi 32 (concatenate S100 0 [⟨S99, a⟩, ⟨S1, b⟩] concatenates_S99_S1_S100_d0)

/-- The rows at which the centroids start: a hundred evenly spaced points, the last one `2047`, rounded towards zero. -/
def startRows : IVec S100 32 := rowsOf (F := F) points lastPoint

/-- The starting rows with a negative one counted from the end. -/
def wrapRows (r : IVec S100 32) : IVec S100x1 32 :=
  broadcastInDim S100x1 ![0] bcast_S100_S100x1_0
    (select (cmpi .slt r (broadcastInDim S100 ![] bcast_S_S100 (constantI S_ 32 0#32)))
      (addi r (broadcastInDim S100 ![] bcast_S_S100 (constantI S_ 32 2048#32))) r)

/-- The starting centroids: the codes at the starting rows. -/
def cent0 (cd : FVec F S32x2048x32 .f32) : FVec F S32x100x32 .f32 :=
  Host.gather gather_S32x2048x32_S100x1_S32x100x32_02_1_n_n_1_1_32132 cd (wrapRows (startRows (F := F)))

/-- The squared length of each code. -/
def codeSq (cd : FVec F S32x2048x32 .f32) : FVec F S32x2048 .f32 :=
  Host.reduceAdd (mulf cd cd) (constant S_ .f32 0x00000000#32) reducesTo_S32x2048x32_S32x2048_d2 h_S_

/-- The squared length of each centroid. -/
def centSq (ct : FVec F S32x100x32 .f32) : FVec F S32x100 .f32 :=
  Host.reduceAdd (mulf ct ct) (constant S_ .f32 0x00000000#32) reducesTo_S32x100x32_S32x100_d2 h_S_

/-- The part of the squared distance before the centroid's own length: `|x|² - 2 x·c`. -/
def distPart (cd : FVec F S32x2048x32 .f32) (ct : FVec F S32x100x32 .f32) : FVec F S32x2048x100 .f32 :=
  subf (broadcastInDim S32x2048x100 ![0, 1, 2] bcast_S32x2048x1_S32x2048x100_0_1_2 (broadcastInDim S32x2048x1 ![0, 1] bcast_S32x2048_S32x2048x1_0_1 (codeSq cd)))
    (mulf (broadcastInDim S32x2048x100 ![] bcast_S_S32x2048x100 (constant S_ .f32 0x40000000#32))
      (Host.dotGeneral dot_S32x2048x32_S32x100x32_S32x2048x100_2_2_1_1_0_0 none cd ct))

/-- The squared distance of each code to each centroid. -/
def dist (cd : FVec F S32x2048x32 .f32) (ct : FVec F S32x100x32 .f32) : FVec F S32x2048x100 .f32 :=
  addf (distPart cd ct) (broadcastInDim S32x2048x100 ![0, 1, 2] bcast_S32x1x100_S32x2048x100_0_1_2
    (broadcastInDim S32x1x100 ![0, 2] bcast_S32x100_S32x1x100_0_2 (centSq ct)))

/-- The nearest centroid of each code, the first one among equals. -/
def nearest (d : FVec F S32x2048x100 .f32) : IVec S32x2048 32 := fun j =>
  (Host.argReduce reducer_argmin_f32_i32 d (iotaInDim S32x2048x100 32 2) (constant S_ .f32 0x7F800000#32) (constantI S_ 32 0#32)
    reducesTo_S32x2048x100_S32x2048_d2 h_S_ j).2

/-- The membership matrix: `1` at the cluster each row belongs to. -/
def member (a : IVec S32x2048 32) : FVec F S32x2048x100 .f32 :=
  uitofp .f32 (cmpi .eq (broadcastInDim S32x2048x100 ![0, 1, 2] bcast_S32x2048x1_S32x2048x100_0_1_2 (broadcastInDim S32x2048x1 ![0, 1] bcast_S32x2048_S32x2048x1_0_1 a))
    (broadcastInDim S32x2048x100 ![0, 1, 2] bcast_S1x1x100_S32x2048x100_0_1_2 (iotaInDim S1x1x100 32 2)))

/-- The membership matrix from the distances. -/
def memberOf (d : FVec F S32x2048x100 .f32) : FVec F S32x2048x100 .f32 := member (nearest d)

/-- How many rows each cluster has. -/
def count (oh : FVec F S32x2048x100 .f32) : FVec F S32x100 .f32 :=
  Host.reduceAdd oh (constant S_ .f32 0x00000000#32) reducesTo_S32x2048x100_S32x100_d1 h_S_

/-- The constant one, a copy for each cluster. -/
def ones : FVec F S32x100 .f32 := broadcastInDim S32x100 ![] bcast_S_S32x100 (constant S_ .f32 0x3F800000#32)

/-- The mean of the codes of each cluster, an empty cluster counted as one row. -/
def means (cd : FVec F S32x2048x32 .f32) (oh : FVec F S32x2048x100 .f32) : FVec F S32x100x32 .f32 :=
  Host.divf (Host.dotGeneral dot_S32x2048x100_S32x2048x32_S32x100x32_1_1_2_2_0_0 none oh cd)
    (broadcastInDim S32x100x32 ![0, 1, 2] bcast_S32x100x1_S32x100x32_0_1_2 (broadcastInDim S32x100x1 ![0, 1] bcast_S32x100_S32x100x1_0_1 (maximumf (count oh) ones)))

/-- One step of the clustering: assign every row to its nearest centroid, then take the means. -/
def step (cd : FVec F S32x2048x32 .f32) (ct : FVec F S32x100x32 .f32) : FVec F S32x100x32 .f32 := means cd (memberOf (dist cd ct))

/-- The mean of the queries of each cluster. -/
def meanQ (q : FVec F S32x2048x64 .f32) (oh : FVec F S32x2048x100 .f32) : FVec F S32x100x64 .f32 :=
  Host.divf (Host.dotGeneral dot_S32x2048x100_S32x2048x64_S32x100x64_1_1_2_2_0_0 none oh q)
    (broadcastInDim S32x100x64 ![0, 1, 2] bcast_S32x100x1_S32x100x64_0_1_2 (broadcastInDim S32x100x1 ![0, 1] bcast_S32x100_S32x100x1_0_1 (maximumf (count oh) ones)))

/-- The scaled scores of each cluster's mean query against every key. -/
def logits (qc : FVec F S32x100x64 .f32) (k : FVec F S32x2048x64 .f32) : FVec F S32x100x2048 .f32 :=
  mulf (broadcastInDim S32x100x2048 ![] bcast_S_S32x100x2048 (constant S_ .f32 0x3E000000#32))
    (Host.dotGeneral dot_S32x100x64_S32x2048x64_S32x100x2048_2_2_1_1_0_0 none qc k)

/-- The exponentials of the scores less their row's greatest. -/
def expo (l : FVec F S32x100x2048 .f32) : FVec F S32x100x2048 .f32 :=
  Host.exp (subf l (broadcastInDim S32x100x2048 ![0, 1, 2] bcast_S32x100x1_S32x100x2048_0_1_2 (broadcastInDim S32x100x1 ![0, 1] bcast_S32x100_S32x100x1_0_1
    (maximumf (broadcastInDim S32x100 ![] bcast_S_S32x100 (constant S_ .f32 0xFF800000#32))
      (Host.reduce FloatOps.maximumf l (constant S_ .f32 0xFF800000#32) reducesTo_S32x100x2048_S32x100_d2 h_S_)))))

/-- The attention weights: each row of exponentials over its sum. -/
def weights (e : FVec F S32x100x2048 .f32) : FVec F S32x100x2048 .f32 :=
  Host.divf e (broadcastInDim S32x100x2048 ![0, 1, 2] bcast_S32x100x1_S32x100x2048_0_1_2 (broadcastInDim S32x100x1 ![0, 1] bcast_S32x100_S32x100x1_0_1
    (Host.reduceAdd e (constant S_ .f32 0x00000000#32) reducesTo_S32x100x2048_S32x100_d2 h_S_)))

/-- The attention: every row takes the value that its cluster's mean query attends to. -/
def attend (oh : FVec F S32x2048x100 .f32) (q k v : FVec F S32x2048x64 .f32) : FVec F S32x2048x64 .f32 :=
  Host.dotGeneral dot_S32x2048x100_S32x100x64_S32x2048x64_2_1_1_2_0_0 none oh
    (Host.dotGeneral dot_S32x100x2048_S32x2048x64_S32x100x64_2_1_1_2_0_0 none (weights (expo (logits (meanQ q oh) k))) v)

end Cert.ReferenceIdeal.Terms

end
-- ==== Proof.RefParts.lean ====
module

public import proofs.«01_k».proof.Proof.RefTerms
public import Idealize.ShloMosaic.Lib.Claim
public import Idealize.ShloMosaic.Lib.StableHlo.RunRead

/-! The reference's `main` read as a chain of short lines of host operations, each with what it leaves in the buffers
    that later ones read: the projections, the codes, the starting centroids, nine steps of the clustering, the final
    memberships, the attention and the output projection. -/

@[expose] public section

set_option maxRecDepth 65536

noncomputable section

namespace Cert.ReferenceIdeal.Parts

open Cert.ReferenceIdeal Cert.ReferenceIdeal.Gen Cert.ReferenceIdeal.Terms Idealize.ShloMosaic Idealize.SL.Sem Idealize.ShloMosaic.StableHlo

variable {F : FTy → Type} [FloatOps F]

/-- The program arguments keep their contents through a line of operations. -/
def KeepsArgs (V V' : Valuation τ sig (Elt F)) : Prop :=
  ∀ r ∈ [main_arg0, main_arg1, main_arg2, main_arg3, main_arg4, main_arg5, main_arg6, main_arg7, main_arg8, main_arg9, main_arg10],
    V' (Proc.devRef .tc r) = V (Proc.devRef .tc r)

/-- Keeping the arguments, one equation for each. -/
theorem keepsArgs_iff {V V' : Valuation τ sig (Elt F)} : KeepsArgs V V' ↔
    V' (Proc.devRef .tc main_arg0) = V (Proc.devRef .tc main_arg0) ∧ V' (Proc.devRef .tc main_arg1) = V (Proc.devRef .tc main_arg1)
    ∧ V' (Proc.devRef .tc main_arg2) = V (Proc.devRef .tc main_arg2) ∧ V' (Proc.devRef .tc main_arg3) = V (Proc.devRef .tc main_arg3)
    ∧ V' (Proc.devRef .tc main_arg4) = V (Proc.devRef .tc main_arg4) ∧ V' (Proc.devRef .tc main_arg5) = V (Proc.devRef .tc main_arg5)
    ∧ V' (Proc.devRef .tc main_arg6) = V (Proc.devRef .tc main_arg6) ∧ V' (Proc.devRef .tc main_arg7) = V (Proc.devRef .tc main_arg7)
    ∧ V' (Proc.devRef .tc main_arg8) = V (Proc.devRef .tc main_arg8) ∧ V' (Proc.devRef .tc main_arg9) = V (Proc.devRef .tc main_arg9)
    ∧ V' (Proc.devRef .tc main_arg10) = V (Proc.devRef .tc main_arg10) := by
  simp only [KeepsArgs, List.forall_mem_cons, List.not_mem_nil, false_implies, implies_true, and_true]

/-- What a line of operations is asked: it touches only the TensorCore's buffers, makes none afresh, keeps the
    arguments, and carries contents with `pre` to contents with `post`. -/
def Does (post : Valuation τ sig (Elt F) → Valuation τ sig (Elt F) → Prop) (ops : List (HloOp τ sig (Elt F))) : Prop :=
  ((ops.Forall fun op => op.bufs ⊆ tcRefs τ sig) ∧ ∀ op ∈ ops, op.fresh = ∅)
    ∧ ∀ V : Valuation τ sig (Elt F), KeepsArgs V (after ops V) ∧ post V (after ops V)

/-- The program this mesh's reference is written in. -/
abbrev RefProg (F : FTy → Type) [FloatOps F] : Type 1 :=
  Prog (TpuEff nD τ sig (Elt F) (Pipeline.Sig Λ₀ (Fin 0) fun p => (pcfgs (F := F) p).Adm) .tc) PUnit

/-- `p` runs the operations `ops` and then `k`. -/
def RunsThen (p : RefProg F) (ops : List (HloOp τ sig (Elt F))) (k : RefProg F) : Prop := p = seq ops >>= fun _ => k

/-- Nothing run yet. -/
theorem RunsThen.nil {k : RefProg F} : RunsThen k [] k := rfl

/-- One operation in front. -/
theorem RunsThen.cons {op : HloOp τ sig (Elt F)} {p k : RefProg F} {ops : List (HloOp τ sig (Elt F))} (h : RunsThen p ops k) :
    RunsThen ((hlo rfl op fun _ => .ret (⟨⟩ : PUnit)) >>= fun _ => p) (op :: ops) k := by
  unfold RunsThen at h ⊢; rw [h]; rfl

/-- `p` is a chain of lines of operations, one for each property in the list, and then returns. -/
def Chain : RefProg F → List (List (HloOp τ sig (Elt F)) → Prop) → Prop
  | p, [] => p = pure ⟨⟩
  | p, P :: rest => ∃ ops k, RunsThen p ops k ∧ P ops ∧ Chain k rest

/-- A chain with its first line in front. -/
theorem Chain.cons {p k : RefProg F} {ops : List (HloOp τ sig (Elt F))} {P : List (HloOp τ sig (Elt F)) → Prop}
    {rest : List (List (HloOp τ sig (Elt F)) → Prop)} (h : RunsThen p ops k) (hP : P ops) (hk : Chain k rest) : Chain p (P :: rest) :=
  ⟨ops, k, h, hP, hk⟩

/-- The three projections, split into heads. -/
def Projects (V V' : Valuation τ sig (Elt F)) : Prop :=
  V' (Proc.devRef .tc main_v6) = heads (dense (V (Proc.devRef .tc main_arg0)) (V (Proc.devRef .tc main_arg2)) (V (Proc.devRef .tc main_arg3)))
    ∧ V' (Proc.devRef .tc main_v13) = heads (dense (V (Proc.devRef .tc main_arg0)) (V (Proc.devRef .tc main_arg4)) (V (Proc.devRef .tc main_arg5)))
    ∧ V' (Proc.devRef .tc main_v20) = heads (dense (V (Proc.devRef .tc main_arg0)) (V (Proc.devRef .tc main_arg6)) (V (Proc.devRef .tc main_arg7)))

/-- The sign codes of the queries. -/
def Codes (V V' : Valuation τ sig (Elt F)) : Prop :=
  V' (Proc.devRef .tc main_v6) = V (Proc.devRef .tc main_v6) ∧ V' (Proc.devRef .tc main_v13) = V (Proc.devRef .tc main_v13) ∧ V' (Proc.devRef .tc main_v20) = V (Proc.devRef .tc main_v20)
    ∧ V' (Proc.devRef .tc main_v25) = codes (V (Proc.devRef .tc main_v6)) (V (Proc.devRef .tc main_arg10))

/-- The points of the even spacing. -/
def Spaces (V V' : Valuation τ sig (Elt F)) : Prop :=
  V' (Proc.devRef .tc main_v6) = V (Proc.devRef .tc main_v6) ∧ V' (Proc.devRef .tc main_v13) = V (Proc.devRef .tc main_v13) ∧ V' (Proc.devRef .tc main_v20) = V (Proc.devRef .tc main_v20) ∧ V' (Proc.devRef .tc main_v25) = V (Proc.devRef .tc main_v25)
    ∧ V' (Proc.devRef .tc main_call1_v15) = points (F := F) ∧ V' (Proc.devRef .tc main_call1_v16) = lastPoint (F := F)

/-- The starting rows from the points. -/
def Starts (V V' : Valuation τ sig (Elt F)) : Prop :=
  V' (Proc.devRef .tc main_v6) = V (Proc.devRef .tc main_v6) ∧ V' (Proc.devRef .tc main_v13) = V (Proc.devRef .tc main_v13) ∧ V' (Proc.devRef .tc main_v20) = V (Proc.devRef .tc main_v20) ∧ V' (Proc.devRef .tc main_v25) = V (Proc.devRef .tc main_v25)
    ∧ V' (Proc.devRef .tc main_v27) = rowsOf (V (Proc.devRef .tc main_call1_v15)) (V (Proc.devRef .tc main_call1_v16))

/-- The distances to the starting centroids. -/
def FirstDist (V V' : Valuation τ sig (Elt F)) : Prop :=
  V' (Proc.devRef .tc main_v6) = V (Proc.devRef .tc main_v6) ∧ V' (Proc.devRef .tc main_v13) = V (Proc.devRef .tc main_v13) ∧ V' (Proc.devRef .tc main_v20) = V (Proc.devRef .tc main_v20) ∧ V' (Proc.devRef .tc main_v25) = V (Proc.devRef .tc main_v25)
    ∧ V' (Proc.devRef .tc main_v48) = dist (V (Proc.devRef .tc main_v25)) (Host.gather gather_S32x2048x32_S100x1_S32x100x32_02_1_n_n_1_1_32132 (V (Proc.devRef .tc main_v25)) (wrapRows (V (Proc.devRef .tc main_v27))))

/-- One step of the clustering, from the distances held at one buffer to the next ones at another. -/
def Steps (d d' : Valuation τ sig (Elt F) → FVec F S32x2048x100 .f32) (V V' : Valuation τ sig (Elt F)) : Prop :=
  V' (Proc.devRef .tc main_v6) = V (Proc.devRef .tc main_v6) ∧ V' (Proc.devRef .tc main_v13) = V (Proc.devRef .tc main_v13) ∧ V' (Proc.devRef .tc main_v20) = V (Proc.devRef .tc main_v20) ∧ V' (Proc.devRef .tc main_v25) = V (Proc.devRef .tc main_v25)
    ∧ d' V' = dist (V (Proc.devRef .tc main_v25)) (means (V (Proc.devRef .tc main_v25)) (memberOf (d V)))

/-- The final memberships. -/
def Members (V V' : Valuation τ sig (Elt F)) : Prop :=
  V' (Proc.devRef .tc main_v6) = V (Proc.devRef .tc main_v6) ∧ V' (Proc.devRef .tc main_v13) = V (Proc.devRef .tc main_v13) ∧ V' (Proc.devRef .tc main_v20) = V (Proc.devRef .tc main_v20)
    ∧ V' (Proc.devRef .tc main_v256) = memberOf (V (Proc.devRef .tc main_v246))

/-- The scores of the clusters. -/
def Scores (V V' : Valuation τ sig (Elt F)) : Prop :=
  V' (Proc.devRef .tc main_v20) = V (Proc.devRef .tc main_v20) ∧ V' (Proc.devRef .tc main_v256) = V (Proc.devRef .tc main_v256)
    ∧ V' (Proc.devRef .tc main_v266) = logits (meanQ (V (Proc.devRef .tc main_v6)) (V (Proc.devRef .tc main_v256))) (V (Proc.devRef .tc main_v13))

/-- The attention from the scores. -/
def Attends (V V' : Valuation τ sig (Elt F)) : Prop :=
  V' (Proc.devRef .tc main_v279) = Host.dotGeneral dot_S32x2048x100_S32x100x64_S32x2048x64_2_1_1_2_0_0 none (V (Proc.devRef .tc main_v256))
    (Host.dotGeneral dot_S32x100x2048_S32x2048x64_S32x100x64_2_1_1_2_0_0 none (weights (expo (V (Proc.devRef .tc main_v266)))) (V (Proc.devRef .tc main_v20)))

/-- The output projection. -/
def Outputs (V V' : Valuation τ sig (Elt F)) : Prop :=
  V' (Proc.devRef .tc main_v286) = dense (unheads (V (Proc.devRef .tc main_v279))) (V (Proc.devRef .tc main_arg8)) (V (Proc.devRef .tc main_arg9))

end Cert.ReferenceIdeal.Parts

end
-- ==== Proof.RefChain.lean ====
module

public import proofs.«01_k».proof.Proof.RefParts

/-! The reference's `main` is the chain of lines that RefParts describes. -/

@[expose] public section

set_option maxRecDepth 65536

noncomputable section

namespace Cert.ReferenceIdeal.Parts

open Cert.ReferenceIdeal Cert.ReferenceIdeal.Gen Cert.ReferenceIdeal.Terms Idealize.ShloMosaic Idealize.SL.Sem Idealize.ShloMosaic.StableHlo

variable {F : FTy → Type} [FloatOps F]

set_option maxHeartbeats 4000000 in
/-- The reference's `main` as a chain: the projections, the codes, the starting rows, the first distances, nine steps
    of the clustering, the final memberships, the scores, the attention and the output projection. -/
theorem chain (c : Dev nD) : Chain (main (F := F) c) [
    Does Projects,
    Does Codes,
    Does Spaces,
    Does Starts,
    Does FirstDist,
    Does (Steps (fun V => V (Proc.devRef .tc main_v48)) (fun V => V (Proc.devRef .tc main_v70))),
    Does (Steps (fun V => V (Proc.devRef .tc main_v70)) (fun V => V (Proc.devRef .tc main_v92))),
    Does (Steps (fun V => V (Proc.devRef .tc main_v92)) (fun V => V (Proc.devRef .tc main_v114))),
    Does (Steps (fun V => V (Proc.devRef .tc main_v114)) (fun V => V (Proc.devRef .tc main_v136))),
    Does (Steps (fun V => V (Proc.devRef .tc main_v136)) (fun V => V (Proc.devRef .tc main_v158))),
    Does (Steps (fun V => V (Proc.devRef .tc main_v158)) (fun V => V (Proc.devRef .tc main_v180))),
    Does (Steps (fun V => V (Proc.devRef .tc main_v180)) (fun V => V (Proc.devRef .tc main_v202))),
    Does (Steps (fun V => V (Proc.devRef .tc main_v202)) (fun V => V (Proc.devRef .tc main_v224))),
    Does (Steps (fun V => V (Proc.devRef .tc main_v224)) (fun V => V (Proc.devRef .tc main_v246))),
    Does Members,
    Does Scores,
    Does Attends,
    Does Outputs] := by
  unfold main main_part0 main_part1 main_part2 main_part3 main_part4 main_part5
    fn_where.body fn_linspace.body fn_argmin.body fn_one_hot.body
  simp only [bind_assoc, pure_bind]
  apply Chain.cons
  · iterate 21 apply RunsThen.cons
    exact RunsThen.nil
  rotate_left
  apply Chain.cons
  · iterate 10 apply RunsThen.cons
    exact RunsThen.nil
  rotate_left
  apply Chain.cons
  · iterate 22 apply RunsThen.cons
    exact RunsThen.nil
  rotate_left
  apply Chain.cons
  · iterate 2 apply RunsThen.cons
    exact RunsThen.nil
  rotate_left
  apply Chain.cons
  · iterate 27 apply RunsThen.cons
    exact RunsThen.nil
  rotate_left
  iterate 9
    apply Chain.cons
    · iterate 36 apply RunsThen.cons
      exact RunsThen.nil
    rotate_left
  apply Chain.cons
  · iterate 26 apply RunsThen.cons
    exact RunsThen.nil
  rotate_left
  apply Chain.cons
  · iterate 13 apply RunsThen.cons
    exact RunsThen.nil
  rotate_left
  apply Chain.cons
  · iterate 16 apply RunsThen.cons
    exact RunsThen.nil
  rotate_left
  apply Chain.cons
  · iterate 7 apply RunsThen.cons
    exact RunsThen.nil
  rotate_left
  · rfl
  all_goals
    refine ⟨⟨by simp, ?_⟩, fun V => ?_⟩
    · intro _ h; (repeat (cases h with | head => rfl | tail _ h => ?_)); exact nomatch h
    · rw [keepsArgs_iff]
      (try unfold Projects); (try unfold Codes); (try unfold Spaces); (try unfold Starts); (try unfold FirstDist); (try unfold Steps)
      (try unfold Members); (try unfold Scores); (try unfold Attends); (try unfold Outputs)
      repeat' apply And.intro
      all_goals
        first
          | (after_reads_simp; done)
          | (after_reads_simp
             (try simp -implicitDefEqProofs only [TRef.toBuf, TRef.ofBuf, cast_cast, cast_eq])
             (try unfold points); (try unfold lastPoint); (try unfold fractions); (try unfold wrapRows)
             (try unfold means); (try unfold meanQ); (try unfold memberOf); (try unfold dist); (try unfold distPart)
             (try unfold codeSq); (try unfold centSq); (try unfold member); (try unfold nearest); (try unfold Terms.count); (try unfold ones)
             (try unfold heads); (try unfold dense); (try unfold unheads); (try unfold codes); (try unfold logits)
             (try unfold expo); (try unfold weights)
             with_reducible rfl)
          | (after_reads_simp
             (try unfold heads); (try unfold dense); (try unfold unheads); (try unfold codes); (try unfold rowsOf); (try unfold points)
             (try unfold fractions); (try unfold lastPoint)
             rfl)

end Cert.ReferenceIdeal.Parts

end
-- ==== Proof.RefRun.lean ====
module

public import proofs.«01_k».proof.Proof.RefChain

/-! The reference run whole: its lines of operations put one after the other, what the last buffer holds at the end,
    and that the arguments and the semaphores are as at the start. -/

@[expose] public section

set_option maxRecDepth 16384

noncomputable section

namespace Cert.ReferenceIdeal.Parts

open Cert.ReferenceIdeal Cert.ReferenceIdeal.Gen Cert.ReferenceIdeal.Terms Idealize.ShloMosaic Idealize.SL.Sem Idealize.ShloMosaic.StableHlo

variable {F : FTy → Type} [FloatOps F]

/-- From contents `V` to contents `V'` through contents that keep the arguments, one property for each stretch. -/
def Path : List (Valuation τ sig (Elt F) → Valuation τ sig (Elt F) → Prop) → Valuation τ sig (Elt F) → Valuation τ sig (Elt F) → Prop
  | [], V, V' => V' = V
  | P :: rest, V, V' => ∃ W, KeepsArgs V W ∧ P V W ∧ Path rest W V'

/-- Keeping the arguments, one stretch after the other. -/
theorem KeepsArgs.trans {V W X : Valuation τ sig (Elt F)} (h : KeepsArgs V W) (h' : KeepsArgs W X) : KeepsArgs V X :=
  fun r hr => (h' r hr).trans (h r hr)

/-- A path keeps the arguments. -/
theorem Path.keeps {Ps : List (Valuation τ sig (Elt F) → Valuation τ sig (Elt F) → Prop)} : ∀ {V V' : Valuation τ sig (Elt F)}, Path Ps V V' → KeepsArgs V V' := by
  induction Ps with
  | nil => intro V V' h; have h' : V' = V := h; subst h'; exact fun _ _ => rfl
  | cons P rest ih =>
    intro V V' h
    obtain ⟨W, hk, _, hr⟩ := h
    exact hk.trans (ih hr)

/-- Two lines one after the other: the contents after the first go into the second. -/
theorem after_then (l₁ l₂ : List (HloOp τ sig (Elt F))) : ∀ V : Valuation τ sig (Elt F), after (l₁ ++ l₂) V = after l₂ (after l₁ V) := by
  induction l₁ with
  | nil => intro V; rfl
  | cons op l ih => intro V; rw [List.cons_append, after_cons, after_cons, ih]

/-- A chain is one line of operations, and what it leaves is a path through what its parts leave. -/
theorem Chain.line (posts : List (Valuation τ sig (Elt F) → Valuation τ sig (Elt F) → Prop)) : ∀ {p : RefProg F}, Chain p (posts.map Does) →
    ∃ ops : List (HloOp τ sig (Elt F)), p = seq ops ∧ (ops.Forall fun op => op.bufs ⊆ tcRefs τ sig) ∧ (∀ op ∈ ops, op.fresh = ∅)
      ∧ ∀ V : Valuation τ sig (Elt F), Path posts V (after ops V) := by
  induction posts with
  | nil => intro p h; exact ⟨[], h, trivial, (fun op ho => nomatch ho), fun V => rfl⟩
  | cons P rest ih =>
    intro p h
    obtain ⟨ops, k, hp, hP, hk⟩ := h
    obtain ⟨ops', hk', hb, hf, hpath⟩ := ih hk
    refine ⟨ops ++ ops', ?_, ?_, ?_, fun V => ?_⟩
    · rw [seq_append, ← hk']; exact hp
    · rw [List.forall_iff_forall_mem] at hb ⊢
      have h1 := List.forall_iff_forall_mem.mp hP.1.1
      intro op ho
      rcases List.mem_append.mp ho with ho | ho
      · exact h1 op ho
      · exact hb op ho
    · intro op ho
      rcases List.mem_append.mp ho with ho | ho
      · exact hP.1.2 op ho
      · exact hf op ho
    · exact ⟨after ops V, (hP.2 V).1, (hP.2 V).2, by rw [after_then]; exact hpath _⟩

/-- The centroids after `n` steps. -/
def cents (cd : FVec F S32x2048x32 .f32) : Nat → FVec F S32x100x32 .f32
  | 0 => cent0 cd
  | n + 1 => step cd (cents cd n)

/-- The attention of the queries `q`, keys `k` and values `v`, clustered by the codes `cd`. -/
def clustered (q k v : FVec F S32x2048x64 .f32) (cd : FVec F S32x2048x32 .f32) : FVec F S32x2048x64 .f32 :=
  attend (memberOf (dist cd (cents cd 9))) q k v

/-- The whole reference as a function of its arguments. -/
def result (x : FVec F S2x2048x1024 .f32) (wq wk wv wo : FVec F S1024x1024 .f32) (bq bk bv bo : FVec F S1024 .f32) (pl : FVec F S64x32 .f32) :
    FVec F S2x2048x1024 .f32 :=
  dense (unheads (clustered (heads (dense x wq bq)) (heads (dense x wk bk)) (heads (dense x wv bv)) (codes (heads (dense x wq bq)) pl))) wo bo

/-- What is held while the clustering goes on: the heads, the codes and the distances to the centroids after `n` steps. -/
def Held (q k v : FVec F S32x2048x64 .f32) (cd : FVec F S32x2048x32 .f32) (n : Nat) (d : Valuation τ sig (Elt F) → FVec F S32x2048x100 .f32)
    (V : Valuation τ sig (Elt F)) : Prop :=
  V (Proc.devRef .tc main_v6) = q ∧ V (Proc.devRef .tc main_v13) = k ∧ V (Proc.devRef .tc main_v20) = v ∧ V (Proc.devRef .tc main_v25) = cd
    ∧ d V = dist cd (cents cd n)

/-- One step keeps what is held. -/
theorem Held.step {q k v : FVec F S32x2048x64 .f32} {cd : FVec F S32x2048x32 .f32} {n : Nat} {d d' : Valuation τ sig (Elt F) → FVec F S32x2048x100 .f32}
    {V W : Valuation τ sig (Elt F)} (h : Held q k v cd n d V) (hs : Steps d d' V W) : Held q k v cd (n + 1) d' W := by
  obtain ⟨h1, h2, h3, h4, h5⟩ := h
  obtain ⟨s1, s2, s3, s4, s5⟩ := hs
  refine ⟨s1.trans h1, s2.trans h2, s3.trans h3, s4.trans h4, ?_⟩
  rw [s5, h4, h5]; rfl

/-- The parts of the reference in order. -/
def posts : List (Valuation τ sig (Elt F) → Valuation τ sig (Elt F) → Prop) :=
  [Projects, Codes, Spaces, Starts, FirstDist,
    Steps (fun V => V (Proc.devRef .tc main_v48)) (fun V => V (Proc.devRef .tc main_v70)),
    Steps (fun V => V (Proc.devRef .tc main_v70)) (fun V => V (Proc.devRef .tc main_v92)),
    Steps (fun V => V (Proc.devRef .tc main_v92)) (fun V => V (Proc.devRef .tc main_v114)),
    Steps (fun V => V (Proc.devRef .tc main_v114)) (fun V => V (Proc.devRef .tc main_v136)),
    Steps (fun V => V (Proc.devRef .tc main_v136)) (fun V => V (Proc.devRef .tc main_v158)),
    Steps (fun V => V (Proc.devRef .tc main_v158)) (fun V => V (Proc.devRef .tc main_v180)),
    Steps (fun V => V (Proc.devRef .tc main_v180)) (fun V => V (Proc.devRef .tc main_v202)),
    Steps (fun V => V (Proc.devRef .tc main_v202)) (fun V => V (Proc.devRef .tc main_v224)),
    Steps (fun V => V (Proc.devRef .tc main_v224)) (fun V => V (Proc.devRef .tc main_v246)),
    Members, Scores, Attends, Outputs]

/-- What the reference leaves in its result buffer. -/
theorem path_result {V V' : Valuation τ sig (Elt F)} (h : Path posts V V') :
    V' (Proc.devRef .tc main_v286) = result (V (Proc.devRef .tc main_arg0)) (V (Proc.devRef .tc main_arg2)) (V (Proc.devRef .tc main_arg4))
      (V (Proc.devRef .tc main_arg6)) (V (Proc.devRef .tc main_arg8)) (V (Proc.devRef .tc main_arg3)) (V (Proc.devRef .tc main_arg5))
      (V (Proc.devRef .tc main_arg7)) (V (Proc.devRef .tc main_arg9)) (V (Proc.devRef .tc main_arg10)) := by
  obtain ⟨V1, k1, p1, V2, k2, p2, V3, k3, p3, V4, k4, p4, V5, k5, p5, A0, a0, s0, A1, a1, s1, A2, a2, s2, A3, a3, s3, A4, a4, s4, A5, a5, s5, A6, a6, s6,
    A7, a7, s7, A8, a8, s8, V6, k6, p6, V7, k7, p7, V8, k8, p8, V9, k9, p9, hV⟩ := h
  have hV : V' = V9 := hV
  subst hV
  have start : Held (V1 (Proc.devRef .tc main_v6)) (V1 (Proc.devRef .tc main_v13)) (V1 (Proc.devRef .tc main_v20))
      (codes (V1 (Proc.devRef .tc main_v6)) (V1 (Proc.devRef .tc main_arg10))) 0 (fun V => V (Proc.devRef .tc main_v48)) V5 := by
    obtain ⟨b1, b2, b3, b4⟩ := p2
    obtain ⟨c1, c2, c3, c4, c5, c6⟩ := p3
    obtain ⟨d1, d2, d3, d4, d5⟩ := p4
    obtain ⟨e1, e2, e3, e4, e5⟩ := p5
    have hcd := (d4.trans c4).trans b4
    refine ⟨((e1.trans d1).trans c1).trans b1, ((e2.trans d2).trans c2).trans b2, ((e3.trans d3).trans c3).trans b3, e4.trans hcd, ?_⟩
    refine e5.trans ?_
    rw [hcd, d5, c5, c6]
    rfl
  have last : Held (V1 (Proc.devRef .tc main_v6)) (V1 (Proc.devRef .tc main_v13)) (V1 (Proc.devRef .tc main_v20))
      (codes (V1 (Proc.devRef .tc main_v6)) (V1 (Proc.devRef .tc main_arg10))) 9 (fun V => V (Proc.devRef .tc main_v246)) A8 := ((((((((start.step s0).step s1).step s2).step s3).step s4).step s5).step s6).step s7).step s8
  obtain ⟨l1, l2, l3, l4, l5⟩ := last
  obtain ⟨m1, m2, m3, m4⟩ := p6
  obtain ⟨n1, n2, n3⟩ := p7
  have hk1 := keepsArgs_iff.mp k1
  have hk := keepsArgs_iff.mp ((((((((((((((((k1.trans k2).trans k3).trans k4).trans k5).trans a0).trans a1).trans a2).trans a3).trans a4).trans a5).trans a6).trans a7).trans a8).trans
    k6).trans k7).trans k8)
  obtain ⟨q1, q2, q3⟩ := p1
  have p8 : V8 (Proc.devRef .tc main_v279) = _ := p8
  have p9 : V' (Proc.devRef .tc main_v286) = _ := p9
  have h256 := (n2.trans m4).trans (congrArg memberOf l5)
  rw [m1, m2, m4, l1, l2, congrArg memberOf l5] at n3
  rw [p9, p8, h256, n1, m3, l3, n3, hk.2.2.2.2.2.2.2.2.1, hk.2.2.2.2.2.2.2.2.2.1, hk1.2.2.2.2.2.2.2.2.2.2, q1, q2, q3]
  unfold result clustered attend
  with_reducible rfl

/-- The reference's lines of operations on one device. -/
theorem line (c : Dev nD) : ∃ ops : List (HloOp τ sig (Elt F)), main (F := F) c = seq ops ∧ (ops.Forall fun op => op.bufs ⊆ tcRefs τ sig)
    ∧ (∀ op ∈ ops, op.fresh = ∅) ∧ ∀ V : Valuation τ sig (Elt F), Path posts V (after ops V) :=
  Chain.line posts (chain c)

/-- There are no semaphores. -/
theorem no_sems : ∀ sm : SemLoc sig, False := by decide

/-- Nothing is scoped. -/
theorem no_scoped : (Finset.univ.filter fun b : Ref sig .tc => b.isScoped) = ∅ := by decide +kernel

/-- Nor is any semaphore. -/
theorem no_scoped_sems : (Finset.univ.filter fun sm : SemLoc sig => sm.isScoped .tc) = ∅ := by decide +kernel

/-- Every final state has each buffer at what the lines of operations leave. -/
theorem run_lines (m : (ℓ : Loc nD τ sig) → Buf (Elt F) ℓ) (ρ : Dev nD → PrngReg) :
    θ_run defs (onTc (τ := τ) (main (F := F))) ⟨m, fun _ => 0, ρ⟩ (fun r => ∀ (c : Dev nD) (b : Ref sig .tc),
      r.2.mem ((c.tc : Thread nD τ).loc b) = after (Classical.choose (line (F := F) c)) (launchContents m c) (Proc.devRef .tc b)) :=
  run_seq no_scoped no_scoped_sems defs main (fun c => Classical.choose (line (F := F) c))
    (fun c => (Classical.choose_spec (line c)).1) (fun c => (Classical.choose_spec (line c)).2.1) m ρ
    (fun c => (Classical.choose_spec (line c)).2.2.1)

set_option maxHeartbeats 2000000 in
/-- The reference runs: its result, its arguments as launched and no semaphore raised. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v286) = result (m ((c.tc : Thread nD τ).loc main_arg0)) (m ((c.tc : Thread nD τ).loc main_arg2))
          (m ((c.tc : Thread nD τ).loc main_arg4)) (m ((c.tc : Thread nD τ).loc main_arg6)) (m ((c.tc : Thread nD τ).loc main_arg8))
          (m ((c.tc : Thread nD τ).loc main_arg3)) (m ((c.tc : Thread nD τ).loc main_arg5)) (m ((c.tc : Thread nD τ).loc main_arg7))
          (m ((c.tc : Thread nD τ).loc main_arg9)) (m ((c.tc : Thread nD τ).loc main_arg10))
      ∧ ∀ b ∈ [main_arg0, main_arg1, main_arg2, main_arg3, main_arg4, main_arg5, main_arg6, main_arg7, main_arg8, main_arg9, main_arg10],
          r.2.mem ((c.tc : Thread nD τ).loc b) = m ((c.tc : Thread nD τ).loc b))
      ∧ r.2.sem = fun _ => 0) := by
  refine θ_run_mono (run_lines m ρ) ?_
  intro r hr
  have hp := fun c => (Classical.choose_spec (line (F := F) c)).2.2.2 (launchContents m c)
  refine ⟨fun c => ⟨?_, fun b hb => (hr c b).trans ((hp c).keeps b hb)⟩, funext fun g => (no_sems g.2).elim⟩
  have e : ∀ b : Ref sig .tc, launchContents m c (Proc.devRef .tc b) = m ((c.tc : Thread nD τ).loc b) := fun b => rfl
  rw [hr c main_v286, path_result (hp c), e main_arg0, e main_arg2, e main_arg4, e main_arg6, e main_arg8, e main_arg3, e main_arg5, e main_arg7,
    e main_arg9, e main_arg10]

end Cert.ReferenceIdeal.Parts

end
-- ==== Proof.DenseTiles.lean ====
module

public import proofs.«01_k».proof.Proof.Gen.KernelIdeal.Frame
public import Idealize.ShloMosaic.Lib.Pipeline.ValueKit

/-! The projection calls: sixteen tiles of 256 rows each make up the whole product with its bias. -/

@[expose] public section

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.Pipeline (Dat)

/-- A product with a bias added to every row. -/
def linear (x : FVec Ideal S4096x1024 .f32) (w : FVec Ideal S1024x1024 .f32) (b : FVec Ideal S1x1024 .f32) : FVec Ideal S4096x1024 .f32 :=
  fun i => (∑ k : Fin 1024, x (ix2 (i 0) k) * w (ix2 k (i 1))) + b (ix2 0 (i 1))

/-- Where each block of the q, k and v call lies. -/
theorem place0 : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] :=
  (by decide +kernel : ∀ t : Fin grid0.N, _)

/-- Where each block of the output call lies. -/
theorem place2 : ∀ t : Fin cfg2.N, win2_0.index t = ![t.val, 0] ∧ win2_1.index t = ![0, 0] ∧ win2_2.index t = ![0, 0] ∧ win2_3.index t = ![t.val, 0] :=
  (by decide +kernel : ∀ t : Fin grid2.N, _)

/-- What one tile stores is a product with a bias. -/
theorem tile (x : Vec Ideal S256x1024 .f32) (w : Vec Ideal S1024x1024 .f32) (b : Vec Ideal S1x1024 .f32) (r : Fin 256) (j : Fin 1024) :
    k0_pay2 x w b (ix2 r j) = (∑ k : Fin 1024, x (ix2 r k) * w (ix2 k j)) + b (ix2 0 j) := by
  pointwise [k0_pay2, k0_pay1]

/-- The three tiles of the first call and the tile of the last are one and the same function. -/
theorem tile_k (x : Vec Ideal S256x1024 .f32) (w : Vec Ideal S1024x1024 .f32) (b : Vec Ideal S1x1024 .f32) : k0_pay3 x w b = k0_pay2 x w b := rfl
theorem tile_v (x : Vec Ideal S256x1024 .f32) (w : Vec Ideal S1024x1024 .f32) (b : Vec Ideal S1x1024 .f32) : k0_pay4 x w b = k0_pay2 x w b := rfl
theorem tile_o (x : Vec Ideal S256x1024 .f32) (w : Vec Ideal S1024x1024 .f32) (b : Vec Ideal S1x1024 .f32) : k2_pay1 x w b = k0_pay2 x w b := rfl

variable (V : (c : Dev nD) → (b : Ref sig .tc) → Buf (Elt Ideal) ((c.tc : Thread nD τ).loc b))

/-- The queries. -/
theorem final_q (c : Dev nD) : (dat0 V c).arrAt 7 cfg0.N = linear (V c main_v0) (V c main_arg2) (V c main_v1) := by
  refine (dat0 V c).arrAt_eq_of_covers 7 _ (by decide +kernel) fun t _ y => ?_
  blk_simp
  rw [after0_7]; frame_out
  pointwise [k0_pay2, k0_pay1, linear]
  blk_point [iblk0, place0 t]

/-- The keys. -/
theorem final_k (c : Dev nD) : (dat0 V c).arrAt 8 cfg0.N = linear (V c main_v0) (V c main_arg4) (V c main_v2) := by
  refine (dat0 V c).arrAt_eq_of_covers 8 _ (by decide +kernel) fun t _ y => ?_
  blk_simp
  rw [after0_8]; frame_out
  rw [tile_k]
  pointwise [k0_pay2, k0_pay1, linear]
  blk_point [iblk0, place0 t]

/-- The values. -/
theorem final_v (c : Dev nD) : (dat0 V c).arrAt 9 cfg0.N = linear (V c main_v0) (V c main_arg6) (V c main_v3) := by
  refine (dat0 V c).arrAt_eq_of_covers 9 _ (by decide +kernel) fun t _ y => ?_
  blk_simp
  rw [after0_9]; frame_out
  rw [tile_v]
  pointwise [k0_pay2, k0_pay1, linear]
  blk_point [iblk0, place0 t]

/-- The output. -/
theorem final_o (c : Dev nD) : (dat2 V c).arrAt 3 cfg2.N = linear (V c main_v13) (V c main_arg8) (V c main_v14) := by
  refine (dat2 V c).arrAt_eq_of_covers 3 _ (by decide +kernel) fun t _ y => ?_
  blk_simp
  rw [after2_3]; frame_out
  rw [tile_o]
  pointwise [k0_pay2, k0_pay1, linear]
  blk_point [iblk2, place2 t]

end Cert.KernelIdeal.Tiles

end
-- ==== Proof.BodyTerms.lean ====
module

public import proofs.«01_k».proof.Proof.Gen.KernelIdeal.Frame

/-! The attention kernel's mathematics for one head as named terms over the vector operations, and the stored block in
    those terms. -/

@[expose] public section

set_option maxRecDepth 16384

noncomputable section

namespace Cert.KernelIdeal.Body

open Cert.KernelIdeal Cert.KernelIdeal.Gen Idealize.ShloMosaic Idealize.SL.Sem

variable {F : FTy → Type} [FloatOps F]

/-- The cluster number of each column. -/
def lane : IVec S2048x128 32 := iota .tc S2048x128 32 [1] iota_S2048x128_d1_w32

/-- The squared length of each code, as a column. -/
def codeSq (cd : FVec F S2048x32 .f32) : FVec F S2048x1 .f32 :=
  shapeCast S2048x1 (multiReduction .add [1] S2048 (mulf cd cd) 0x00000000#32 reduces_S2048x32_S2048 (.inl rfl) rfl) shapeCasts_S2048_S2048x1

/-- The squared length of each centroid, as a row. -/
def centSq (ct : FVec F S128x32 .f32) : FVec F S1x128 .f32 :=
  transpose S1x128 [1, 0] (shapeCast S128x1 (multiReduction .add [1] S128 (mulf ct ct) 0x00000000#32 reduces_S128x32_S128 (.inl rfl) rfl)
    shapeCasts_S128_S128x1) transposes_S128x1_p1_0_S1x128

/-- The products of the codes with the centroids. -/
def prods (cd : FVec F S2048x32 .f32) (ct : FVec F S128x32 .f32) : FVec F S2048x128 .f32 :=
  matmul dot_S2048x32_S128x32_S2048x128_1_1_0_0_n_n none cd ct (constant S2048x128 .f32 0x00000000#32)

/-- The squared distances, with a penalty on the padding clusters. -/
def dist (cd : FVec F S2048x32 .f32) (ct : FVec F S128x32 .f32) : FVec F S2048x128 .f32 :=
  addf (addf (subf (broadcastTo S2048x128 (codeSq cd) broadcasts_S2048x1_S2048x128)
      (mulf (broadcast S2048x128 (Scalar.ofBits .f32 0x40000000#32)) (prods cd ct)))
    (broadcastTo S2048x128 (centSq ct) broadcasts_S1x128_S2048x128)) (k1_pay6 (F := F))

/-- The cluster numbers at which a row's distance is its least, and `128` elsewhere. -/
def ties (d : FVec F S2048x128 .f32) : IVec S2048x128 32 :=
  select (cmpf .oeq d (broadcastTo S2048x128 (shapeCast S2048x1
      (multiReduction .minimumf [1] S2048 d 0x7F800000#32 reduces_S2048x128_S2048 (.inl rfl) rfl) shapeCasts_S2048_S2048x1)
    broadcasts_S2048x1_S2048x128)) lane (broadcast S2048x128 128#32)

/-- The least cluster number of each row. -/
def least (t : IVec S2048x128 32) : IVec S2048x1 32 :=
  shapeCast S2048x1 (multiReductionI .minsi [1] S2048 t 2147483647#32 reduces_S2048x128_S2048 rfl) shapeCasts_S2048_S2048x1

/-- `1` at the cluster of each row, as an integer. -/
def mask (n : IVec S2048x1 32) : IVec S2048x128 32 :=
  extui 32 (cmpi .eq lane (broadcastTo S2048x128 n broadcasts_S2048x1_S2048x128)) natLt_1_32

/-- The membership matrix from the distances. -/
def memberOf (d : FVec F S2048x128 .f32) : FVec F S2048x128 .f32 := sitofp .f32 (mask (least (ties d)))

/-- How many rows each cluster has, at least one. -/
def counts (oh : FVec F S2048x128 .f32) : FVec F S128x1 .f32 :=
  maximumf (matmul dot_S2048x128_S2048x1_S128x1_0_0_1_1_n_n none oh (k1_pay8 (F := F)) (constant S128x1 .f32 0x00000000#32))
    (broadcast S128x1 (Scalar.ofBits .f32 0x3F800000#32))

/-- The mean of the codes of each cluster. -/
def means (cd : FVec F S2048x32 .f32) (oh : FVec F S2048x128 .f32) : FVec F S128x32 .f32 :=
  divf (matmul dot_S2048x128_S2048x32_S128x32_0_0_1_1_n_n none oh cd (constant S128x32 .f32 0x00000000#32))
    (broadcastTo S128x32 (counts oh) broadcasts_S128x1_S128x32)

/-- One step of the clustering. -/
def step (cd : FVec F S2048x32 .f32) (ct : FVec F S128x32 .f32) : FVec F S128x32 .f32 := means cd (memberOf (dist cd ct))

/-- The mean of the queries of each cluster. -/
def meanQ (q : FVec F S2048x64 .f32) (oh : FVec F S2048x128 .f32) : FVec F S128x64 .f32 :=
  divf (matmul dot_S2048x128_S2048x64_S128x64_0_0_1_1_n_n none oh q (constant S128x64 .f32 0x00000000#32))
    (broadcastTo S128x64 (counts oh) broadcasts_S128x1_S128x64)

/-- The scaled scores of each cluster's mean query against every key. -/
def logits (qc : FVec F S128x64 .f32) (k : FVec F S2048x64 .f32) : FVec F S128x2048 .f32 :=
  mulf (broadcast S128x2048 (Scalar.ofBits .f32 0x3E000000#32))
    (matmul dot_S128x64_S2048x64_S128x2048_1_1_0_0_n_n none qc k (constant S128x2048 .f32 0x00000000#32))

/-- The exponentials of the scores less their row's greatest. -/
def expo (l : FVec F S128x2048 .f32) : FVec F S128x2048 .f32 :=
  exp (subf l (broadcastTo S128x2048 (shapeCast S128x1
    (multiReduction .maximumf [1] S128 l 0xFF800000#32 reduces_S128x2048_S128 (.inl rfl) rfl) shapeCasts_S128_S128x1) broadcasts_S128x1_S128x2048))

/-- The attention weights. -/
def weights (e : FVec F S128x2048 .f32) : FVec F S128x2048 .f32 :=
  divf e (broadcastTo S128x2048 (shapeCast S128x1
    (multiReduction .add [1] S128 e 0x00000000#32 reduces_S128x2048_S128 (.inl rfl) rfl) shapeCasts_S128_S128x1) broadcasts_S128x1_S128x2048)

/-- The attention of one head from its membership matrix. -/
def attend (oh : FVec F S2048x128 .f32) (q k v : FVec F S2048x64 .f32) : FVec F S2048x64 .f32 :=
  matmul dot_S2048x128_S128x64_S2048x64_1_0_0_1_n_n none oh
    (matmul dot_S128x2048_S2048x64_S128x64_1_0_0_1_n_n none (weights (expo (logits (meanQ q oh) k))) v (constant S128x64 .f32 0x00000000#32))
    (constant S2048x64 .f32 0x00000000#32)

/-- The centroids after `n` steps. -/
def cents (cd : FVec F S2048x32 .f32) (ct : FVec F S128x32 .f32) : Nat → FVec F S128x32 .f32
  | 0 => ct
  | n + 1 => step cd (cents cd ct n)

section Pays

variable (cd : FVec F S2048x32 .f32) (ct : FVec F S128x32 .f32)

theorem pay11_eq : k1_pay11 cd lane (k1_pay6 (F := F)) ct (k1_pay8 (F := F)) (codeSq cd) (prods cd ct) = ties (dist cd (step cd ct)) := rfl

theorem pay12_eq (t : IVec S2048x128 32) : k1_pay12 cd lane (k1_pay6 (F := F)) (k1_pay8 (F := F)) (codeSq cd) t
    = step cd (means cd (sitofp .f32 (mask (least t)))) := rfl

theorem pay15_eq (v120 : FVec F S2048x128 .f32) (v122 : FVec F S128 .f32) (h1 : v120 = prods cd ct)
    (h2 : v122 = multiReduction .add [1] S128 (mulf ct ct) 0x00000000#32 reduces_S128x32_S128 (.inl rfl) rfl) :
    k1_pay15 cd lane (k1_pay6 (F := F)) (k1_pay8 (F := F)) (codeSq cd) v120 v122 = least (ties (dist cd (step cd ct))) := by
  subst h1 h2; rfl

theorem pay16_eq (n : IVec S2048x1 32) : k1_pay16 cd lane (k1_pay6 (F := F)) (k1_pay8 (F := F)) (codeSq cd) n
    = step cd (means cd (sitofp .f32 (mask n))) := rfl

theorem pay19_eq : k1_pay19 cd lane (k1_pay6 (F := F)) (k1_pay8 (F := F)) (codeSq cd) (prods cd ct) (centSq ct) (Scalar.ofBits .f32 0x40000000#32)
    = mask (least (ties (dist cd (step cd ct)))) := rfl

theorem pay20_eq (w : IVec S2048x128 32) : k1_pay20 cd lane (k1_pay6 (F := F)) (k1_pay8 (F := F)) (codeSq cd) w
    = step cd (means cd (sitofp .f32 w)) := rfl

theorem pay24_eq (q k v : FVec F S2048x64 .f32) (v306 v307 : FVec F S2048x128 .f32)
    (h1 : v306 = mulf (broadcast S2048x128 (Scalar.ofBits .f32 0x40000000#32)) (prods cd ct))
    (h2 : v307 = broadcastTo S2048x128 (codeSq cd) broadcasts_S2048x1_S2048x128) :
    k1_pay24 q k v lane (k1_pay6 (F := F)) (k1_pay8 (F := F)) (centSq ct) v306 v307 = attend (memberOf (dist cd ct)) q k v := by
  subst h1 h2; rfl

end Pays

/-- The codes of one head, from its block of queries. -/
def codes (x0 : Vec F S1x1x2048x64 .f32) (x3 : Vec F S64x32 .f32) : FVec F S2048x32 .f32 := k1_pay5 (View.ld x0 r1_0) (View.ld x3 r1_1)

/-- The starting centroids of one head. -/
def start (x0 : Vec F S1x1x2048x64 .f32) (x3 : Vec F S64x32 .f32) (x4 : Vec F S128x1 .i32) : FVec F S128x32 .f32 :=
  k1_pay7 (View.ld x0 r1_0) (View.ld x3 r1_1) (View.ld x4 r1_2)

/-- The block the attention kernel stores: nine steps of the clustering, the memberships of the last centroids, and the
    attention. -/
theorem out1_5_eq (x0 x1 x2 : Vec F S1x1x2048x64 .f32) (x3 : Vec F S64x32 .f32) (x4 : Vec F S128x1 .i32) :
    out1_5 x0 x1 x2 x3 x4 = View.canon [⟨r1_0, k1_pay1 (attend (memberOf (dist (codes x0 x3) (cents (codes x0 x3) (start x0 x3 x4) 9)))
      (k1_pay2 (View.ld x0 r1_0)) (k1_pay3 (View.ld x1 r1_0)) (k1_pay4 (View.ld x2 r1_0)))⟩] := by
  have e30 : k1_pay30 x0 x1 x2 x3 x4 = ties (dist (codes x0 x3) (cents (codes x0 x3) (start x0 x3 x4) 1)) :=
    pay11_eq (codes x0 x3) (start x0 x3 x4)
  have e12 : k1_pay12 (codes x0 x3) lane (k1_pay6 (F := F)) (k1_pay8 (F := F)) (codeSq (codes x0 x3)) (k1_pay30 x0 x1 x2 x3 x4)
      = cents (codes x0 x3) (start x0 x3 x4) 3 := by
    rw [e30, pay12_eq]; rfl
  have e31 : k1_pay31 x0 x1 x2 x3 x4 = least (ties (dist (codes x0 x3) (cents (codes x0 x3) (start x0 x3 x4) 4))) := by
    refine pay15_eq (codes x0 x3) (cents (codes x0 x3) (start x0 x3 x4) 3) _ _ ?_ ?_
    · rw [← e12]; rfl
    · rw [← e12]; rfl
  have e16 : k1_pay16 (codes x0 x3) lane (k1_pay6 (F := F)) (k1_pay8 (F := F)) (codeSq (codes x0 x3)) (k1_pay31 x0 x1 x2 x3 x4)
      = cents (codes x0 x3) (start x0 x3 x4) 6 := by
    rw [e31, pay16_eq]; rfl
  have e32 : k1_pay32 x0 x1 x2 x3 x4 = mask (least (ties (dist (codes x0 x3) (cents (codes x0 x3) (start x0 x3 x4) 7)))) := by
    refine Eq.trans ?_ (pay19_eq (codes x0 x3) (cents (codes x0 x3) (start x0 x3 x4) 6))
    rw [← e16]; rfl
  have e20 : k1_pay20 (codes x0 x3) lane (k1_pay6 (F := F)) (k1_pay8 (F := F)) (codeSq (codes x0 x3)) (k1_pay32 x0 x1 x2 x3 x4)
      = cents (codes x0 x3) (start x0 x3 x4) 9 := by
    rw [e32, pay20_eq]; rfl
  have e24 := pay24_eq (codes x0 x3) (cents (codes x0 x3) (start x0 x3 x4) 9) (k1_pay2 (View.ld x0 r1_0)) (k1_pay3 (View.ld x1 r1_0))
    (k1_pay4 (View.ld x2 r1_0)) _ _ rfl rfl
  rw [← e24, ← e20]
  rfl

end Cert.KernelIdeal.Body

end
-- ==== Proof.Clusters.lean ====
module

public import Idealize.ShloMosaic.Lib.Pointwise
public import Idealize.ShloMosaic.Lib.IdealHost

/-! The mathematics of one head, over plain functions on the extended reals: squared distances, the first nearest
    centroid, means, and the attention of one cluster; and that a hundred and twenty-eight centroids, twenty-eight of them
    padding behind a large penalty, cluster as the hundred do. -/

@[expose] public section

set_option maxRecDepth 16384

noncomputable section

namespace Cert.Clusters

open Idealize.ShloMosaic

/-- The literal two. -/
abbrev two : EReal := Ideal.ofBits .f32 0x40000000#32
/-- The penalty of a padding cluster. -/
abbrev big : EReal := Ideal.ofBits .f32 1900671690#32

theorem two_eq : two = ((2 : ℝ) : EReal) := by
  simp [two, Ideal.ofBits, Ideal.ieee, -EReal.coe_mul]; norm_num

theorem big_eq : ∃ r : ℝ, 1000000000 ≤ r ∧ big = (r : EReal) := by
  refine ⟨_, ?_, by simp [big, Ideal.ofBits, Ideal.ieee, -EReal.coe_mul]; rfl⟩
  norm_num

theorem negOne_eq : Ideal.ofBits .f32 0xBF800000#32 = ((-1 : ℝ) : EReal) := by
  simp [Ideal.ofBits, Ideal.ieee, -EReal.coe_mul, -EReal.coe_neg]; norm_num

theorem top_eq : Ideal.ofBits .f32 2139095040#32 = (⊤ : EReal) := by
  simp [Ideal.ofBits, Ideal.ieee]

theorem bot_eq : Ideal.ofBits .f32 4286578688#32 = (⊥ : EReal) := by
  simp [Ideal.ofBits, Ideal.ieee]

/-- The squared distance of a code to a centroid, in the order the programs add it up. -/
def sqDist (x y : Fin 32 → EReal) : EReal := ((∑ j, x j * x j) - two * (∑ j, x j * y j)) + ∑ j, y j * y j

/-- The mean of `x` over the rows of weight `oh`, an empty set counted as one row. -/
def meanOf {N : ℕ} (oh x : Fin N → EReal) : EReal := Ideal.div (∑ n, oh n * x n) (max (∑ n, oh n) 1)

/-- `a` is the first place at which `d` is least. -/
def IsFirst {C : ℕ} (d : Fin C → EReal) (a : Fin C) : Prop := (∀ c, d a ≤ d c) ∧ ∀ c, c < a → d a < d c

theorem IsFirst.unique {C : ℕ} {d : Fin C → EReal} {a b : Fin C} (ha : IsFirst d a) (hb : IsFirst d b) : a = b := by
  rcases lt_trichotomy a b with h | h | h
  · exact absurd (hb.2 a h) (not_lt.2 (ha.1 b))
  · exact h
  · exact absurd (ha.2 b h) (not_lt.2 (hb.1 a))

theorem exists_isFirst {C : ℕ} (hC : 0 < C) (d : Fin C → EReal) : ∃ a, IsFirst d a := by
  classical
  haveI : Nonempty (Fin C) := ⟨⟨0, hC⟩⟩
  obtain ⟨m, hm⟩ := Finite.exists_min d
  obtain ⟨a, ha, hmin⟩ := (Finset.univ.filter fun c => d c = d m).exists_minimal ⟨m, by simp⟩
  have ha' : d a = d m := by simpa using ha
  refine ⟨a, fun c => ha' ▸ hm c, fun c hc => lt_of_le_of_ne (ha' ▸ hm c) fun e => ?_⟩
  exact absurd (hmin (by simp [← e, ha'] : c ∈ _) hc.le) (not_le.2 hc)

open Classical in
/-- `1` at the first nearest centroid and `0` elsewhere. -/
def oneAt {C : ℕ} (d : Fin C → EReal) (c : Fin C) : EReal := if IsFirst d c then 1 else 0

/-- The scaled score of a cluster's mean query against key `n`. -/
def score (oh : Fin 2048 → EReal) (q k : Fin 2048 → Fin 64 → EReal) (n : Fin 2048) : EReal :=
  Ideal.ofBits .f32 0x3E000000#32 * ∑ d, meanOf oh (fun m => q m d) * k n d

/-- The exponential of a score less the greatest. -/
def expOf (s : Fin 2048 → EReal) (n : Fin 2048) : EReal := Ideal.exp (s n - Finset.univ.fold max ⊥ s)

/-- What a cluster attends to: the values weighted by the softmax of its scores. -/
def clusterOut (oh : Fin 2048 → EReal) (q k v : Fin 2048 → Fin 64 → EReal) (j : Fin 64) : EReal :=
  ∑ n, Ideal.div (expOf (score oh q k) n) (∑ m, expOf (score oh q k) m) * v n j

/-- A centroid number below a hundred among the hundred and twenty-eight. -/
abbrev real (c : Fin 100) : Fin 128 := Fin.castLE (by decide) c

/-- The distances of the padded clustering. -/
def distK (cd : Fin 2048 → Fin 32 → EReal) (ct : Fin 128 → Fin 32 → EReal) (n : Fin 2048) (c : Fin 128) : EReal :=
  sqDist (cd n) (ct c) + if 100 ≤ c.val then big else 0

/-- The distances of the plain clustering. -/
def distR (cd : Fin 2048 → Fin 32 → EReal) (ct : Fin 100 → Fin 32 → EReal) (n : Fin 2048) (c : Fin 100) : EReal :=
  sqDist (cd n) (ct c)

/-- The padded centroids against the plain ones: equal below a hundred, zero above, and bounded. -/
structure Rel (ctK : Fin 128 → Fin 32 → EReal) (ctR : Fin 100 → Fin 32 → EReal) : Prop where
  same : ∀ c j, ctK (real c) j = ctR c j
  pad : ∀ (c : Fin 128) j, 100 ≤ c.val → ctK c j = 0
  bound : ∀ c j, ∃ r : ℝ, ctR c j = (r : EReal) ∧ |r| ≤ 2048

/-- A matrix of signs. -/
def Signs (cd : Fin 2048 → Fin 32 → EReal) : Prop := ∀ n j, ∃ r : ℝ, cd n j = (r : EReal) ∧ (r = 1 ∨ r = -1)

theorem coe_sum' {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem sqDist_coe (x y : Fin 32 → ℝ) :
    sqDist (fun j => (x j : EReal)) (fun j => (y j : EReal)) = (((∑ j, x j * x j) - 2 * (∑ j, x j * y j) + ∑ j, y j * y j : ℝ) : EReal) := by
  unfold sqDist
  rw [two_eq, EReal.coe_add, EReal.coe_sub, EReal.coe_mul, coe_sum', coe_sum', coe_sum']
  simp only [EReal.coe_mul]

section
variable {cd : Fin 2048 → Fin 32 → EReal} {ctK : Fin 128 → Fin 32 → EReal} {ctR : Fin 100 → Fin 32 → EReal}

theorem distK_real (h : Rel ctK ctR) (n : Fin 2048) (c : Fin 100) : distK cd ctK n (real c) = distR cd ctR n c := by
  unfold distK distR
  rw [if_neg (by simp), add_zero]
  congr 1
  funext j; exact h.same c j

/-- A padding cluster is farther than every real one. -/
theorem distR_lt_pad (hcd : Signs cd) (h : Rel ctK ctR) (n : Fin 2048) (c : Fin 100) (p : Fin 128) (hp : 100 ≤ p.val) :
    distR cd ctR n c < distK cd ctK n p := by
  choose x hx hs using hcd n
  choose y hy hb using h.bound c
  obtain ⟨r, hr, hbig⟩ := big_eq
  unfold distK distR
  rw [if_pos hp, hbig, show cd n = fun j => ((x j : ℝ) : EReal) from funext hx, show ctR c = fun j => ((y j : ℝ) : EReal) from funext hy,
    show ctK p = fun j => (((fun _ => 0 : Fin 32 → ℝ) j : ℝ) : EReal) from funext fun j => by simp [h.pad p j hp], sqDist_coe, sqDist_coe,
    ← EReal.coe_add, EReal.coe_lt_coe_iff]
  have h1 : ∀ j, -2048 ≤ x j * y j := fun j => by
    have := abs_le.1 (hb j)
    rcases hs j with e | e <;> rw [e] <;> linarith [this.1, this.2]
  have h2 : ∀ j, y j * y j ≤ 2048 * 2048 := fun j => by
    have := abs_le.1 (hb j); nlinarith [this.1, this.2]
  have s1 : ∑ _j : Fin 32, (-2048 : ℝ) ≤ ∑ j, x j * y j := Finset.sum_le_sum fun j _ => h1 j
  have s2 : ∑ j, y j * y j ≤ ∑ _j : Fin 32, (2048 * 2048 : ℝ) := Finset.sum_le_sum fun j _ => h2 j
  simp only [Finset.sum_const, Finset.card_univ, Fintype.card_fin, nsmul_eq_mul] at s1 s2
  simp only [mul_zero, Finset.sum_const_zero]
  push_cast at s1 s2
  linarith

theorem isFirst_real (hcd : Signs cd) (h : Rel ctK ctR) (n : Fin 2048) (c : Fin 100) :
    IsFirst (distK cd ctK n) (real c) ↔ IsFirst (distR cd ctR n) c := by
  constructor
  · rintro ⟨h1, h2⟩
    refine ⟨fun c' => ?_, fun c' hc => ?_⟩
    · simpa only [distK_real h] using h1 (real c')
    · simpa only [distK_real h] using h2 (real c') hc
  · rintro ⟨h1, h2⟩
    refine ⟨fun c' => ?_, fun c' hc => ?_⟩
    · rw [distK_real h]
      by_cases hp : 100 ≤ c'.val
      · exact (distR_lt_pad hcd h n c c' hp).le
      · have := h1 ⟨c'.val, by omega⟩
        rwa [← distK_real h n ⟨c'.val, by omega⟩] at this
    · have hlt : c'.val < c.val := hc
      have := h2 ⟨c'.val, by omega⟩ hlt
      rwa [← distK_real h n ⟨c'.val, by omega⟩, ← distK_real h n c] at this

theorem not_isFirst_pad (hcd : Signs cd) (h : Rel ctK ctR) (n : Fin 2048) (p : Fin 128) (hp : 100 ≤ p.val) :
    ¬ IsFirst (distK cd ctK n) p := fun hf => by
  have := hf.1 (real 0)
  rw [distK_real h] at this
  exact absurd (distR_lt_pad hcd h n 0 p hp) (not_lt.2 this)

theorem oneAt_real (hcd : Signs cd) (h : Rel ctK ctR) (n : Fin 2048) (c : Fin 100) :
    oneAt (distK cd ctK n) (real c) = oneAt (distR cd ctR n) c := by
  classical
  unfold oneAt; exact if_congr (isFirst_real hcd h n c) rfl rfl

theorem oneAt_pad (hcd : Signs cd) (h : Rel ctK ctR) (n : Fin 2048) (p : Fin 128) (hp : 100 ≤ p.val) :
    oneAt (distK cd ctK n) p = 0 := by
  unfold oneAt; rw [if_neg (not_isFirst_pad hcd h n p hp)]

/-- A mean of signs is a bounded real. -/
theorem meanOf_bound (oh x : Fin 2048 → ℝ) (ho : ∀ n, oh n = 0 ∨ oh n = 1) (hx : ∀ n, x n = 1 ∨ x n = -1) :
    ∃ r : ℝ, meanOf (fun n => (oh n : EReal)) (fun n => (x n : EReal)) = (r : EReal) ∧ |r| ≤ 2048 := by
  have e1 : max ((∑ n, oh n : ℝ) : EReal) 1 = ((max (∑ n, oh n) 1 : ℝ) : EReal) := by
    rw [← EReal.coe_one]; exact (EReal.coe_strictMono.monotone.map_max).symm
  have hpos : (1 : ℝ) ≤ max (∑ n, oh n) 1 := le_max_right _ _
  refine ⟨(∑ n, oh n * x n) * (1 / max (∑ n, oh n) 1), ?_, ?_⟩
  · unfold meanOf
    rw [← coe_sum', e1, Ideal.div_coe (by linarith), EReal.coe_mul, coe_sum']
    simp only [EReal.coe_mul]
  · rw [abs_mul]
    have a1 : |∑ n, oh n * x n| ≤ 2048 := by
      refine (Finset.abs_sum_le_sum_abs _ _).trans ?_
      have : ∀ n ∈ (Finset.univ : Finset (Fin 2048)), |oh n * x n| ≤ 1 := fun n _ => by
        rcases ho n with e | e <;> rcases hx n with f | f <;> rw [e, f] <;> simp
      refine (Finset.sum_le_sum this).trans ?_
      simp
    have a2 : |1 / max (∑ n, oh n) 1| ≤ 1 := by
      rw [abs_of_nonneg (by positivity)]
      exact (div_le_one (by linarith)).2 hpos
    nlinarith [abs_nonneg (∑ n, oh n * x n), abs_nonneg (1 / max (∑ n, oh n) 1)]

/-- One step of both clusterings keeps them related. -/
theorem Rel.step (hcd : Signs cd) (h : Rel ctK ctR) :
    Rel (fun c j => meanOf (fun n => oneAt (distK cd ctK n) c) fun n => cd n j)
      (fun c j => meanOf (fun n => oneAt (distR cd ctR n) c) fun n => cd n j) := by
  refine ⟨fun c j => ?_, fun c j hc => ?_, fun c j => ?_⟩
  · simp only [oneAt_real hcd h]
  · simp only [oneAt_pad hcd h _ c hc, meanOf]
    simp [Ideal.div]
  · choose x hx hs using fun n => hcd n j
    classical
    have := meanOf_bound (fun n => if IsFirst (distR cd ctR n) c then 1 else 0) x (fun n => by by_cases hf : IsFirst (distR cd ctR n) c <;> simp [hf]) hs
    have e1 : (fun n => oneAt (distR cd ctR n) c) = fun n => (((if IsFirst (distR cd ctR n) c then 1 else 0 : ℝ)) : EReal) := by
      funext n; unfold oneAt; by_cases hf : IsFirst (distR cd ctR n) c <;> simp [hf]
    rw [e1, show (fun n => cd n j) = fun n => ((x n : ℝ) : EReal) from funext hx]
    exact this

/-- The sum over the padded clusters is the sum over the real ones where the memberships of the padding vanish. -/
theorem sum_real {f : Fin 128 → EReal} {g : Fin 100 → EReal} (hs : ∀ c, f (real c) = g c) (hp : ∀ p : Fin 128, 100 ≤ p.val → f p = 0) :
    ∑ c, f c = ∑ c, g c := by
  refine (Fin.sum_univ_add (a := 100) (b := 28) f).trans ?_
  rw [show ∑ i : Fin 28, f (Fin.natAdd 100 i) = 0 from Finset.sum_eq_zero fun i _ => hp _ (by simp), add_zero]
  exact Finset.sum_congr rfl fun c _ => hs c

/-- The attention of a head over the padded clusters is the attention over the real ones. -/
theorem attend_same (hcd : Signs cd) (h : Rel ctK ctR) (q k v : Fin 2048 → Fin 64 → EReal) (n : Fin 2048) (j : Fin 64) :
    ∑ c, oneAt (distK cd ctK n) c * clusterOut (fun m => oneAt (distK cd ctK m) c) q k v j
      = ∑ c, oneAt (distR cd ctR n) c * clusterOut (fun m => oneAt (distR cd ctR m) c) q k v j :=
  sum_real (fun c => by simp only [oneAt_real hcd h]) (fun p hp => by rw [oneAt_pad hcd h n p hp, zero_mul])

/-- The starting centroids are related: a row of the codes for a real cluster, nothing for padding. -/
theorem Rel.start (hcd : Signs cd) (row : Fin 100 → Fin 2048) (sel : Fin 128 → Fin 2048 → EReal)
    (hsel : ∀ c n, sel (real c) n = if n = row c then 1 else 0) (hpad : ∀ (p : Fin 128) n, 100 ≤ p.val → sel p n = 0) :
    Rel (fun c j => ∑ n, sel c n * cd n j) (fun c j => cd (row c) j) := by
  refine ⟨fun c j => ?_, fun c j hc => ?_, fun c j => ?_⟩
  · simp [hsel]
  · simp [hpad _ _ hc]
  · obtain ⟨r, hr, hs⟩ := hcd (row c) j
    refine ⟨r, hr, ?_⟩
    rcases hs with e | e <;> rw [e] <;> norm_num

end

end Cert.Clusters

end
-- ==== Proof.Argmin.lean ====
module

public import proofs.«01_k».proof.Proof.Clusters

/-! The first nearest centroid, found in two ways: a fold over (distance, number) pairs that keeps the lesser pair, and
    the least number among those whose distance is the least. -/

@[expose] public section

set_option maxRecDepth 16384

noncomputable section

namespace Cert.Clusters

open Idealize.ShloMosaic

/-- A (distance, number) pair is not after another. -/
def Before (p q : EReal × BitVec 32) : Prop := p.1 < q.1 ∨ (p.1 = q.1 ∧ p.2.toInt ≤ q.2.toInt)

theorem Before.refl (p : EReal × BitVec 32) : Before p p := .inr ⟨rfl, le_rfl⟩

theorem Before.trans {p q r : EReal × BitVec 32} (h : Before p q) (k : Before q r) : Before p r := by
  rcases h with h | ⟨h, h'⟩ <;> rcases k with k | ⟨k, k'⟩
  · exact .inl (h.trans k)
  · exact .inl (k ▸ h)
  · exact .inl (h ▸ k)
  · exact .inr ⟨h.trans k, h'.trans k'⟩

/-- A combiner that returns one of its two arguments, and one that is not after either. -/
def Keeps (f : EReal × BitVec 32 → EReal × BitVec 32 → EReal × BitVec 32) : Prop :=
  ∀ p q, (f p q = p ∨ f p q = q) ∧ Before (f p q) p ∧ Before (f p q) q

/-- A fold with such a combiner ends at the start or at a member, not after any of them. -/
theorem foldl_keeps {f : EReal × BitVec 32 → EReal × BitVec 32 → EReal × BitVec 32} (hf : Keeps f) :
    ∀ (l : List (EReal × BitVec 32)) (p : EReal × BitVec 32),
      (l.foldl f p = p ∨ l.foldl f p ∈ l) ∧ Before (l.foldl f p) p ∧ ∀ q ∈ l, Before (l.foldl f p) q
  | [], p => ⟨.inl rfl, .refl p, fun _ h => nomatch h⟩
  | a :: l, p => by
    obtain ⟨h1, h2, h3⟩ := foldl_keeps hf l (f p a)
    obtain ⟨k1, k2, k3⟩ := hf p a
    rw [List.foldl_cons]
    refine ⟨?_, h2.trans k2, fun q hq => ?_⟩
    · rcases h1 with e | e
      · rcases k1 with e' | e'
        · exact .inl (e.trans e')
        · exact .inr (by rw [e, e']; exact List.mem_cons_self)
      · exact .inr (List.mem_cons_of_mem _ e)
    · rcases List.mem_cons.1 hq with rfl | hq
      · exact h2.trans k3
      · exact h3 q hq

theorem toInt_lane : ∀ c : Fin 128, (BitVec.ofNat 32 c.val).toInt = c.val := by decide

theorem toInt_lane100 (c : Fin 100) : (BitVec.ofNat 32 c.val).toInt = c.val := toInt_lane (real c)

/-- The fold over the pairs of a row of distances, from `(⊤, 0)`, ends at the number of the first least distance. -/
theorem foldl_first {f : EReal × BitVec 32 → EReal × BitVec 32 → EReal × BitVec 32} (hf : Keeps f) (l : List (EReal × BitVec 32))
    (d : Fin 100 → EReal) (hl : ∀ p, p ∈ l ↔ ∃ c : Fin 100, p = (d c, BitVec.ofNat 32 c.val)) (a : Fin 100) (ha : IsFirst d a) :
    (l.foldl f (⊤, 0#32)).2 = BitVec.ofNat 32 a.val := by
  obtain ⟨h1, -, h3⟩ := foldl_keeps hf l (⊤, 0#32)
  have hb := h3 _ ((hl _).2 ⟨a, rfl⟩)
  rcases h1 with e | e
  · rw [e] at hb ⊢
    rcases hb with hb | ⟨hb, -⟩
    · exact absurd hb not_top_lt
    · have hb' : (⊤ : EReal) = d a := hb
      have : a = 0 := by
        by_contra hne
        have := ha.2 0 (Fin.pos_of_ne_zero hne)
        rw [← hb'] at this
        exact absurd this not_top_lt
      rw [this]; rfl
  · obtain ⟨c, hc⟩ := (hl _).1 e
    rw [hc] at hb ⊢
    have hle : d c ≤ d a := by
      rcases hb with hb | ⟨hb, -⟩
      · exact hb.le
      · exact le_of_eq hb
    have heq : d c = d a := le_antisymm hle (ha.1 c)
    have hca : (c.val : Int) ≤ a.val := by
      rcases hb with hb | ⟨-, hb⟩
      · exact absurd hb (not_lt.2 (ha.1 c))
      · simpa only [toInt_lane100] using hb
    have : c = a := by
      rcases lt_or_eq_of_le (show c ≤ a from by exact_mod_cast hca) with hlt | heq'
      · exact absurd (ha.2 c hlt) (not_lt.2 hle)
      · exact heq'
    rw [this]

theorem minsi_of_le {x y : BitVec 32} (h : x.toInt ≤ y.toInt) : IntOp.minsi x y = x := by
  unfold IntOp.minsi
  by_cases hlt : x.slt y = true
  · rw [if_pos hlt]
  · rw [if_neg hlt]
    rw [BitVec.slt_iff_toInt_lt] at hlt
    exact (BitVec.eq_of_toInt_eq (le_antisymm h (not_lt.1 hlt))).symm

theorem minsi_le (z x y : BitVec 32) (hx : z.toInt ≤ x.toInt) (hy : z.toInt ≤ y.toInt) : z.toInt ≤ (IntOp.minsi x y).toInt := by
  unfold IntOp.minsi; split <;> assumption

/-- The least of a family of integers, where one of them is known to be the least. -/
theorem fold_minsi (f : Fin 128 → BitVec 32) (a : Fin 128) (h : ∀ c, (f a).toInt ≤ (f c).toInt) (ht : (f a).toInt ≤ (2147483647#32).toInt) :
    Finset.univ.fold IntOp.minsi (2147483647#32) f = f a := by
  have key : ∀ s : Finset (Fin 128), (f a).toInt ≤ (s.fold IntOp.minsi (2147483647#32) f).toInt := fun s => by
    induction s using Finset.induction_on with
    | empty => simpa using ht
    | insert c s hc ih => rw [Finset.fold_insert hc]; exact minsi_le _ _ _ (h c) ih
  rw [← Finset.insert_erase (Finset.mem_univ a), Finset.fold_insert (Finset.notMem_erase a _)]
  exact minsi_of_le (key _)

theorem fold_min_first {C : ℕ} (d : Fin C → EReal) (a : Fin C) (ha : IsFirst d a) : Finset.univ.fold min ⊤ d = d a :=
  le_antisymm ((Finset.fold_min_le _).2 (.inr ⟨a, Finset.mem_univ a, le_rfl⟩)) (Finset.le_fold_min _ |>.2 ⟨le_top, fun c _ => ha.1 c⟩)

/-- The least number whose distance is the least one is the first. -/
theorem least_first (d : Fin 128 → EReal) (a : Fin 128) (ha : IsFirst d a) :
    Finset.univ.fold IntOp.minsi (2147483647#32)
      (fun x : Fin 128 => if d x = Finset.univ.fold min ⊤ d then BitVec.ofNat 32 x.val else 128#32) = BitVec.ofNat 32 a.val := by
  rw [fold_min_first d a ha]
  refine (fold_minsi _ a (fun c => ?_) ?_).trans (if_pos rfl)
  · rw [if_pos rfl, toInt_lane]
    split
    · rename_i hc
      rw [toInt_lane]
      by_contra hlt
      have : c < a := by
        have := not_le.1 hlt
        exact_mod_cast this
      exact absurd (ha.2 c this) (by rw [hc]; exact lt_irrefl _)
    · have := a.isLt
      have e : (128#32).toInt = 128 := by decide
      rw [e]; omega
  · rw [if_pos rfl, toInt_lane]
    have := a.isLt
    have e : (2147483647#32).toInt = 2147483647 := by decide
    rw [e]; omega

theorem lane_inj : ∀ c a : Fin 128, BitVec.ofNat 32 c.val = BitVec.ofNat 32 a.val ↔ c = a := fun c a => by
  constructor
  · intro h
    have := congrArg BitVec.toInt h
    rw [toInt_lane, toInt_lane] at this
    exact Fin.ext (by exact_mod_cast this)
  · rintro rfl; rfl

/-- The widened bit of an equality as a number. -/
theorem sitofp_eq (x y : BitVec 32) :
    FloatOps.sitofp (F := Ideal) .f32 (BitVec.setWidth 32 (IntOp.cmpi .eq x y)) = if x = y then (1 : EReal) else 0 := by
  by_cases h : x = y
  · rw [if_pos h, show IntOp.cmpi .eq x y = 1#1 by simp [IntOp.cmpi, h]]
    show (((BitVec.setWidth 32 1#1).toInt : ℝ) : EReal) = 1
    rw [show (BitVec.setWidth 32 1#1).toInt = 1 by decide]; norm_num
  · rw [if_neg h, show IntOp.cmpi .eq x y = 0#1 by simp only [IntOp.cmpi, beq_eq_false_iff_ne.2 h]; rfl]
    show (((BitVec.setWidth 32 0#1).toInt : ℝ) : EReal) = 0
    rw [show (BitVec.setWidth 32 0#1).toInt = 0 by decide]; norm_num

/-- The bit of an equality as a number. -/
theorem uitofp_eq (x y : BitVec 32) :
    FloatOps.uitofp (F := Ideal) .f32 (IntOp.cmpi .eq x y) = if x = y then (1 : EReal) else 0 := by
  by_cases h : x = y
  · rw [if_pos h, show IntOp.cmpi .eq x y = 1#1 by simp [IntOp.cmpi, h]]
    show (((1#1).toNat : ℝ) : EReal) = 1
    norm_num
  · rw [if_neg h, show IntOp.cmpi .eq x y = 0#1 by simp only [IntOp.cmpi, beq_eq_false_iff_ne.2 h]; rfl]
    show (((0#1).toNat : ℝ) : EReal) = 0
    norm_num

theorem oneAt_eq {C : ℕ} {d : Fin C → EReal} {a : Fin C} (ha : IsFirst d a) (c : Fin C) : oneAt d c = if c = a then 1 else 0 := by
  classical
  unfold oneAt
  exact if_congr ⟨fun h => h.unique ha, fun h => h ▸ ha⟩ rfl rfl

end Cert.Clusters

end
-- ==== Proof.KRead.lean ====
module

public import proofs.«01_k».proof.Proof.BodyTerms
public import proofs.«01_k».proof.Proof.Argmin

/-! The attention kernel's terms read at an index, over the extended reals. -/

@[expose] public section

set_option maxRecDepth 16384

noncomputable section

namespace Cert.KernelIdeal.Body

open Cert.KernelIdeal Cert.KernelIdeal.Gen Cert.Clusters Idealize.ShloMosaic Idealize.SL.Sem

/-- The codes are the signs of the products with the hash planes. -/
theorem codes_apply (x0 : Vec Ideal S1x1x2048x64 .f32) (x3 : Vec Ideal S64x32 .f32) (n : Fin 2048) (b : Fin 32) :
    codes x0 x3 (ix2 n b) = if 0 < ∑ x, x0 (ix4 0 0 n x) * x3 (ix2 x b) then 1 else Ideal.ofBits .f32 0xBF800000#32 := by
  pointwise [codes, k1_pay5, k1_pay2]

theorem sge_lane : ∀ c : Fin 128, IntOp.cmpi .sge (BitVec.ofNat 32 c.val) 100#32 = BitVec.ofBool (decide (100 ≤ c.val)) := by decide

/-- The distances. -/
theorem dist_apply (cd : FVec Ideal S2048x32 .f32) (ct : FVec Ideal S128x32 .f32) (n : Fin 2048) (c : Fin 128) :
    dist cd ct (ix2 n c) = distK (fun n j => cd (ix2 n j)) (fun c j => ct (ix2 c j)) n c := by
  pointwise [dist, prods, codeSq, centSq, k1_pay6]
  rw [sge_lane]
  unfold distK sqDist
  congr 1
  by_cases h : 100 ≤ c.val <;> simp [h, Scalar.select]

/-- The membership matrix marks the first nearest centroid. -/
theorem memberOf_apply (d : FVec Ideal S2048x128 .f32) (n : Fin 2048) (c : Fin 128) :
    memberOf d (ix2 n c) = oneAt (fun c => d (ix2 n c)) c := by
  obtain ⟨a, ha⟩ := exists_isFirst (by decide) (fun c : Fin 128 => d (ix2 n c))
  pointwise [memberOf, mask, least, ties, lane]
  rw [top_eq, least_first (fun c => d (ix2 n c)) a ha, oneAt_eq ha]
  rw [sitofp_eq]
  exact if_congr (lane_inj c a) rfl rfl

/-- The means of the codes. -/
theorem means_apply (cd : FVec Ideal S2048x32 .f32) (oh : FVec Ideal S2048x128 .f32) (c : Fin 128) (j : Fin 32) :
    means cd oh (ix2 c j) = meanOf (fun n => oh (ix2 n c)) (fun n => cd (ix2 n j)) := by
  pointwise [means, counts, k1_pay8]
  rfl

/-- The means of the queries. -/
theorem meanQ_apply (q : FVec Ideal S2048x64 .f32) (oh : FVec Ideal S2048x128 .f32) (c : Fin 128) (j : Fin 64) :
    meanQ q oh (ix2 c j) = meanOf (fun n => oh (ix2 n c)) (fun n => q (ix2 n j)) := by
  pointwise [meanQ, counts, k1_pay8]
  rfl

/-- The scores. -/
theorem logits_apply (qc : FVec Ideal S128x64 .f32) (k : FVec Ideal S2048x64 .f32) (c : Fin 128) (n : Fin 2048) :
    logits qc k (ix2 c n) = Ideal.ofBits .f32 0x3E000000#32 * ∑ d, qc (ix2 c d) * k (ix2 n d) := by
  pointwise [logits]

/-- The exponentials. -/
theorem expo_apply (l : FVec Ideal S128x2048 .f32) (c : Fin 128) (n : Fin 2048) :
    expo l (ix2 c n) = expOf (fun n => l (ix2 c n)) n := by
  pointwise [expo]
  rw [bot_eq]; rfl

/-- The weights. -/
theorem weights_apply (e : FVec Ideal S128x2048 .f32) (c : Fin 128) (n : Fin 2048) :
    weights e (ix2 c n) = Ideal.div (e (ix2 c n)) (∑ m, e (ix2 c m)) := by
  pointwise [weights]

/-- The attention of a head. -/
theorem attend_apply (oh : FVec Ideal S2048x128 .f32) (q k v : FVec Ideal S2048x64 .f32) (n : Fin 2048) (j : Fin 64) :
    attend oh q k v (ix2 n j) = ∑ c, oh (ix2 n c) * clusterOut (fun m => oh (ix2 m c)) (fun n d => q (ix2 n d)) (fun n d => k (ix2 n d))
      (fun n d => v (ix2 n d)) j := by
  unfold attend
  generalize hw : weights (expo (logits (meanQ q oh) k)) = w
  pointwise []
  refine Finset.sum_congr rfl fun c _ => ?_
  congr 1
  refine Finset.sum_congr rfl fun m _ => ?_
  rw [← hw, weights_apply]
  simp only [expo_apply, logits_apply, meanQ_apply]
  rfl

/-- The starting centroids: the codes at the rows the table names. -/
theorem start_apply (x0 : Vec Ideal S1x1x2048x64 .f32) (x3 : Vec Ideal S64x32 .f32) (x4 : Vec Ideal S128x1 .i32) (c : Fin 128) (j : Fin 32) :
    start x0 x3 x4 (ix2 c j) = ∑ n : Fin 2048, (if BitVec.ofNat 32 n.val = x4 (ix2 c 0) then 1 else 0) * codes x0 x3 (ix2 n j) := by
  simp only [codes_apply]
  pointwise [start, k1_pay7, k1_pay5, k1_pay2]
  refine Finset.sum_congr rfl fun n _ => ?_
  rw [sitofp_eq]

end Cert.KernelIdeal.Body

end
-- ==== Proof.RRead.lean ====
module

public import proofs.«01_k».proof.Proof.RefTerms
public import proofs.«01_k».proof.Proof.Argmin

/-! The reference's terms read at an index, over the extended reals. -/

@[expose] public section

set_option maxRecDepth 16384

noncomputable section

namespace Cert.ReferenceIdeal.Terms

open Cert.ReferenceIdeal Cert.ReferenceIdeal.Gen Cert.Clusters Idealize.ShloMosaic Idealize.SL.Sem

/-- The codes are the signs of the products with the hash planes. -/
theorem codes_apply (q : FVec Ideal S32x2048x64 .f32) (p : FVec Ideal S64x32 .f32) (g : Fin 32) (n : Fin 2048) (b : Fin 32) :
    codes q p (ix3 g n b) = if 0 < ∑ x, q (ix3 g n x) * p (ix2 x b) then 1 else Ideal.ofBits .f32 0xBF800000#32 := by
  pointwise [codes]

/-- The distances. -/
theorem dist_apply (cd : FVec Ideal S32x2048x32 .f32) (ct : FVec Ideal S32x100x32 .f32) (g : Fin 32) (n : Fin 2048) (c : Fin 100) :
    dist cd ct (ix3 g n c) = distR (fun n j => cd (ix3 g n j)) (fun c j => ct (ix3 g c j)) n c := by
  pointwise [dist, distPart, codeSq, centSq]
  rfl

/-- The membership matrix marks the row's number. -/
theorem member_apply (a : IVec S32x2048 32) (g : Fin 32) (n : Fin 2048) (c : Fin 100) :
    member (F := Ideal) a (ix3 g n c) = if a (ix2 g n) = BitVec.ofNat 32 c.val then 1 else 0 := by
  pointwise [member]
  exact uitofp_eq _ _

theorem reducer_keeps : Keeps (reducer_argmin_f32_i32 (F := Ideal)) := fun p q => by
  obtain ⟨p1, p2⟩ := p; obtain ⟨q1, q2⟩ := q
  have hred : reducer_argmin_f32_i32 (F := Ideal) (p1, p2) (q1, q2)
      = if p1 < q1 then (p1, p2) else if p1 = q1 ∧ p2.toInt < q2.toInt then (q1, p2) else (q1, q2) := by
    unfold reducer_argmin_f32_i32
    simp only [Ideal.cmpf_def, Ideal.cmp, IntOp.cmpi, BitVec.slt_eq_decide]
    by_cases h1 : p1 < q1 <;> by_cases h2 : p1 = q1 <;> by_cases h3 : p2.toInt < q2.toInt <;>
      simp [h1, h2, h3, Scalar.select, IntOp.ori, IntOp.andi]
  rw [hred]
  by_cases h1 : p1 < q1
  · rw [if_pos h1]; exact ⟨.inl rfl, .refl _, .inl h1⟩
  · rw [if_neg h1]
    by_cases h2 : p1 = q1 ∧ p2.toInt < q2.toInt
    · rw [if_pos h2, ← h2.1]; exact ⟨.inl rfl, .refl _, .inr ⟨rfl, h2.2.le⟩⟩
    · rw [if_neg h2]
      refine ⟨.inr rfl, ?_, .refl _⟩
      rcases lt_or_eq_of_le (not_lt.1 h1) with hlt | heq
      · exact .inl hlt
      · exact .inr ⟨heq, not_lt.1 fun h => h2 ⟨heq.symm, h⟩⟩

theorem drop_eq (i : S32x2048x100.Idx) (g : Fin 32) (n : Fin 2048) :
    reducesTo_S32x2048x100_S32x2048_d2.drop i = ix2 g n ↔ ∃ c : Fin 100, i = ix3 g n c := by
  idx_vars i
  have e : reducesTo_S32x2048x100_S32x2048_d2.drop (ix3 i0 i1 i2) = ix2 i0 i1 := by
    funext a
    match a with
    | ⟨0, _⟩ => rfl
    | ⟨1, _⟩ => rfl
  rw [e]
  constructor
  · intro h
    have h0 := congrFun h 0
    have h1 := congrFun h 1
    exact ⟨i2, by rw [show i0 = g from h0, show i1 = n from h1]⟩
  · rintro ⟨c, hc⟩
    have h0 := congrFun hc 0
    have h1 := congrFun hc 1
    rw [show i0 = g from h0, show i1 = n from h1]

/-- The arg-min along the reduced axes is a fold over the entries that drop to the index. -/
theorem argmin_fold {s t u : Shape} {axes : List (Fin s.rank)} (x : FVec Ideal s .f32) (y : IVec s 32) (h : s.ReducesTo axes t) (hu : 0 < u.numel) (j : t.Idx) :
    Host.argReduce reducer_argmin_f32_i32 x y (constant u .f32 0x7F800000#32) (constantI u 32 0#32) h hu j
      = (Host.argReduceFiber x y h j).foldl reducer_argmin_f32_i32 ((⊤ : EReal), 0#32) := by
  rw [Ideal.argReduce_eq_reduce2, Host.reduce2_eq_foldl_fiber]
  rw [show (constant u .f32 0x7F800000#32 : FVec Ideal u .f32) (Shape.Idx.first hu) = (⊤ : EReal) from top_eq]
  rfl

/-- Those entries. -/
theorem mem_fiber {s t : Shape} {axes : List (Fin s.rank)} (x : FVec Ideal s .f32) (y : IVec s 32) (h : s.ReducesTo axes t) (j : t.Idx) (p : EReal × BitVec 32) :
    p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨k, hk, rfl⟩; exact ⟨_, hk, rfl⟩
  · rintro ⟨i, hi, rfl⟩; exact ⟨s.rowMajor i, by rw [Equiv.symm_apply_apply]; exact hi, by rw [Equiv.symm_apply_apply]⟩

theorem iota_at (g : Fin 32) (n : Fin 2048) (c : Fin 100) : iotaInDim S32x2048x100 32 2 (ix3 g n c) = BitVec.ofNat 32 c.val := by
  pointwise []

/-- The pairs folded: each distance of the row with the number of its centroid. -/
theorem mem_row (d : FVec Ideal S32x2048x100 .f32) (g : Fin 32) (n : Fin 2048) (p : EReal × BitVec 32) :
    p ∈ Host.argReduceFiber d (iotaInDim S32x2048x100 32 2) reducesTo_S32x2048x100_S32x2048_d2 (ix2 g n) ↔ ∃ c : Fin 100, p = (d (ix3 g n c), BitVec.ofNat 32 c.val) := by
  refine (mem_fiber d _ _ (ix2 g n) p).trans ⟨?_, ?_⟩
  · rintro ⟨i, hi, hp⟩
    obtain ⟨c, hc⟩ := (drop_eq _ g n).1 hi
    exact ⟨c, by rw [hp, hc, iota_at]⟩
  · rintro ⟨c, hp⟩
    exact ⟨ix3 g n c, (drop_eq _ g n).2 ⟨c, rfl⟩, by rw [hp, iota_at]⟩

/-- A function that gives the second parts of pairs, at an index where the pair is known. -/
theorem snd_at {ι α β : Type} {n : ι → β} (p : ι → α × β) (hn : n = fun j => (p j).2) (j : ι) {q : α × β} (hq : p j = q) : n j = q.2 := by
  rw [hn]; exact congrArg Prod.snd hq

/-- The nearest centroids as the second parts of the arg-min. -/
theorem nearest_eq (d : FVec Ideal S32x2048x100 .f32) :
    nearest d = fun j => (Host.argReduce reducer_argmin_f32_i32 d (iotaInDim S32x2048x100 32 2) (constant S_ .f32 0x7F800000#32)
      (constantI S_ 32 0#32) reducesTo_S32x2048x100_S32x2048_d2 h_S_ j).2 := rfl

/-- The nearest centroid as a fold over the row. -/
theorem nearest_fold (d : FVec Ideal S32x2048x100 .f32) (j : S32x2048.Idx) :
    nearest d j = ((Host.argReduceFiber d (iotaInDim S32x2048x100 32 2) reducesTo_S32x2048x100_S32x2048_d2 j).foldl reducer_argmin_f32_i32 ((⊤ : EReal), 0#32)).2 :=
  snd_at _ (nearest_eq d) j (argmin_fold d (iotaInDim S32x2048x100 32 2) reducesTo_S32x2048x100_S32x2048_d2 h_S_ j)

/-- The nearest centroid is the first one at the least distance. -/
theorem nearest_apply (d : FVec Ideal S32x2048x100 .f32) (g : Fin 32) (n : Fin 2048) (a : Fin 100) (ha : IsFirst (fun c => d (ix3 g n c)) a) :
    nearest d (ix2 g n) = BitVec.ofNat 32 a.val :=
  (nearest_fold d (ix2 g n)).trans (foldl_first reducer_keeps _ (fun c => d (ix3 g n c)) (mem_row d g n) a ha)

/-- The membership matrix marks the first nearest centroid. -/
theorem memberOf_apply (d : FVec Ideal S32x2048x100 .f32) (g : Fin 32) (n : Fin 2048) (c : Fin 100) :
    memberOf d (ix3 g n c) = oneAt (fun c => d (ix3 g n c)) c := by
  obtain ⟨a, ha⟩ := exists_isFirst (by decide) (fun c : Fin 100 => d (ix3 g n c))
  unfold memberOf
  rw [member_apply, nearest_apply d g n a ha, oneAt_eq ha]
  refine if_congr ⟨fun h => ?_, fun h => by rw [h]⟩ rfl rfl
  have := (lane_inj (real a) (real c)).1 h
  exact Fin.ext (congrArg Fin.val this).symm

/-- The means of the codes. -/
theorem means_apply (cd : FVec Ideal S32x2048x32 .f32) (oh : FVec Ideal S32x2048x100 .f32) (g : Fin 32) (c : Fin 100) (j : Fin 32) :
    means cd oh (ix3 g c j) = meanOf (fun n => oh (ix3 g n c)) (fun n => cd (ix3 g n j)) := by
  pointwise [means, Terms.count, ones]
  rfl

/-- The means of the queries. -/
theorem meanQ_apply (q : FVec Ideal S32x2048x64 .f32) (oh : FVec Ideal S32x2048x100 .f32) (g : Fin 32) (c : Fin 100) (j : Fin 64) :
    meanQ q oh (ix3 g c j) = meanOf (fun n => oh (ix3 g n c)) (fun n => q (ix3 g n j)) := by
  pointwise [meanQ, Terms.count, ones]
  rfl

/-- The scores. -/
theorem logits_apply (qc : FVec Ideal S32x100x64 .f32) (k : FVec Ideal S32x2048x64 .f32) (g : Fin 32) (c : Fin 100) (n : Fin 2048) :
    logits qc k (ix3 g c n) = Ideal.ofBits .f32 0x3E000000#32 * ∑ d, qc (ix3 g c d) * k (ix3 g n d) := by
  pointwise [logits]

/-- The greatest entry of a row. -/
theorem rowMax_apply (l : FVec Ideal S32x100x2048 .f32) (g : Fin 32) (c : Fin 100) :
    Host.reduce FloatOps.maximumf l (constant S_ .f32 0xFF800000#32) reducesTo_S32x100x2048_S32x100_d2 h_S_ (ix2 g c)
      = Finset.univ.fold max ⊥ fun n => l (ix3 g c n) := by
  rw [← bot_eq]
  pointwise []

/-- The exponentials less a row's bound. -/
theorem expoOf_apply (l : FVec Ideal S32x100x2048 .f32) (r : FVec Ideal S32x100 .f32) (g : Fin 32) (c : Fin 100) (n : Fin 2048) :
    Host.exp (subf l (broadcastInDim S32x100x2048 ![0, 1, 2] bcast_S32x100x1_S32x100x2048_0_1_2 (broadcastInDim S32x100x1 ![0, 1] bcast_S32x100_S32x100x1_0_1
      (maximumf (broadcastInDim S32x100 ![] bcast_S_S32x100 (constant S_ .f32 0xFF800000#32)) r)))) (ix3 g c n)
      = Ideal.exp (l (ix3 g c n) - r (ix2 g c)) := by
  pointwise []
  rw [bot_eq, max_eq_right bot_le]

/-- The exponentials. -/
theorem expo_apply (l : FVec Ideal S32x100x2048 .f32) (g : Fin 32) (c : Fin 100) (n : Fin 2048) :
    expo l (ix3 g c n) = expOf (fun n => l (ix3 g c n)) n := by
  unfold expo expOf
  rw [expoOf_apply, rowMax_apply]

/-- The weights. -/
theorem weights_apply (e : FVec Ideal S32x100x2048 .f32) (g : Fin 32) (c : Fin 100) (n : Fin 2048) :
    weights e (ix3 g c n) = Ideal.div (e (ix3 g c n)) (∑ m, e (ix3 g c m)) := by
  pointwise [weights]

/-- Every row takes its cluster's value. -/
theorem pick_apply (oh : FVec Ideal S32x2048x100 .f32) (z : FVec Ideal S32x100x64 .f32) (g : Fin 32) (n : Fin 2048) (j : Fin 64) :
    Host.dotGeneral dot_S32x2048x100_S32x100x64_S32x2048x64_2_1_1_2_0_0 none oh z (ix3 g n j) = ∑ c, oh (ix3 g n c) * z (ix3 g c j) := by
  pointwise []

/-- The values mixed by the weights. -/
theorem mix_apply (w : FVec Ideal S32x100x2048 .f32) (v : FVec Ideal S32x2048x64 .f32) (g : Fin 32) (c : Fin 100) (j : Fin 64) :
    Host.dotGeneral dot_S32x100x2048_S32x2048x64_S32x100x64_2_1_1_2_0_0 none w v (ix3 g c j) = ∑ m, w (ix3 g c m) * v (ix3 g m j) := by
  pointwise []

/-- A cluster's weights. -/
theorem weightsAt (oh : FVec Ideal S32x2048x100 .f32) (q k : FVec Ideal S32x2048x64 .f32) (g : Fin 32) (c : Fin 100) (m : Fin 2048) :
    weights (expo (logits (meanQ q oh) k)) (ix3 g c m)
      = Ideal.div (expOf (score (fun m => oh (ix3 g m c)) (fun n d => q (ix3 g n d)) fun n d => k (ix3 g n d)) m)
        (∑ m', expOf (score (fun m => oh (ix3 g m c)) (fun n d => q (ix3 g n d)) fun n d => k (ix3 g n d)) m') := by
  have e : (fun n => logits (meanQ q oh) k (ix3 g c n)) = score (fun m => oh (ix3 g m c)) (fun n d => q (ix3 g n d)) fun n d => k (ix3 g n d) := by
    funext n
    rw [logits_apply]
    unfold score
    refine congrArg _ (Finset.sum_congr rfl fun d _ => ?_)
    rw [meanQ_apply]
  rw [weights_apply, expo_apply, e]
  refine congrArg _ (Finset.sum_congr rfl fun m' _ => ?_)
  rw [expo_apply, e]

/-- The attention. -/
theorem attend_apply (oh : FVec Ideal S32x2048x100 .f32) (q k v : FVec Ideal S32x2048x64 .f32) (g : Fin 32) (n : Fin 2048) (j : Fin 64) :
    attend oh q k v (ix3 g n j) = ∑ c, oh (ix3 g n c) * clusterOut (fun m => oh (ix3 g m c)) (fun n d => q (ix3 g n d)) (fun n d => k (ix3 g n d))
      (fun n d => v (ix3 g n d)) j := by
  unfold attend
  rw [pick_apply]
  refine Finset.sum_congr rfl fun c _ => congrArg _ ?_
  rw [mix_apply]
  unfold clusterOut
  refine Finset.sum_congr rfl fun m _ => ?_
  rw [weightsAt]

/-- A head's column of a dense layer. -/
theorem heads_apply (y : FVec Ideal S2x2048x1024 .f32) (g : Fin 32) (n : Fin 2048) (j : Fin 64) :
    heads y (ix3 g n j) = y (ix3 ⟨g.val / 16, by omega⟩ n ⟨g.val % 16 * 64 + j.val, by omega⟩) := by
  pointwise [heads]

/-- A column of the heads put side by side. -/
theorem unheads_apply (o : FVec Ideal S32x2048x64 .f32) (b : Fin 2) (n : Fin 2048) (j : Fin 1024) :
    unheads o (ix3 b n j) = o (ix3 ⟨b.val * 16 + j.val / 64, by omega⟩ n ⟨j.val % 64, by omega⟩) := by
  pointwise [unheads]

/-- A dense layer. -/
theorem dense_apply (x : FVec Ideal S2x2048x1024 .f32) (w : FVec Ideal S1024x1024 .f32) (c : FVec Ideal S1024 .f32) (b : Fin 2) (n : Fin 2048) (j : Fin 1024) :
    dense x w c (ix3 b n j) = (∑ i, x (ix3 b n i) * w (ix2 i j)) + c (ix1 j) := by
  pointwise [dense]

end Cert.ReferenceIdeal.Terms

end
-- ==== Proof.RStart.lean ====
module

public import proofs.«01_k».proof.Proof.RefTerms
public import proofs.«01_k».proof.Proof.Argmin

/-! The rows at which the reference's centroids start, and the centroids there, over the extended reals. -/

@[expose] public section

set_option maxRecDepth 16384

noncomputable section

namespace Cert.ReferenceIdeal.Terms

open Cert.ReferenceIdeal Cert.ReferenceIdeal.Gen Cert.Clusters Idealize.ShloMosaic Idealize.SL.Sem

theorem nn_eq : Ideal.ofBits .f32 1120272384#32 = ((99 : ℝ) : EReal) := by
  simp [Ideal.ofBits, Ideal.ieee, -EReal.coe_mul]; norm_num

theorem sitofp_coe (x : BitVec 32) : (FloatOps.sitofp .f32 x : Ideal .f32) = ((x.toInt : ℝ) : EReal) := rfl

theorem toInt_small (k : ℕ) (hk : k ≤ 2047) : (BitVec.ofNat 32 k).toInt = (k : ℤ) := by
  rw [BitVec.toInt_eq_toNat_cond, BitVec.toNat_ofNat, Nat.mod_eq_of_lt (by omega), if_pos (by omega)]

/-- A real between a small number and the next rounds towards zero to the number. -/
theorem fptosi_floor (k : ℕ) (hk : k ≤ 2047) (r : ℝ) (h1 : (k : ℝ) ≤ r) (h2 : r < k + 1) :
    (FloatOps.fptosi (F := Ideal) (φ := .f32) 32 ((r : ℝ) : EReal) : BitVec 32) = BitVec.ofNat 32 k := by
  have hr : (0 : ℝ) ≤ r := le_trans (Nat.cast_nonneg k) h1
  have hf : ⌊r⌋ = (k : ℤ) := Int.floor_eq_iff.2 ⟨by exact_mod_cast h1, by exact_mod_cast h2⟩
  show BitVec.ofInt 32 (max (-((2 ^ (32 - 1) : ℕ) : ℤ)) (min (((2 ^ (32 - 1) : ℕ) : ℤ) - 1) (if 0 ≤ r then ⌊r⌋ else ⌈r⌉))) = _
  rw [if_pos hr, hf, min_eq_right (by norm_num; omega), max_eq_right (by omega), BitVec.ofInt_natCast]

/-- The starting rows are spaced evenly. -/
theorem startRows_apply (c : Fin 100) : startRows (F := Ideal) (ix1 c) = BitVec.ofNat 32 (2047 * c.val / 99) := by
  have hc := c.isLt
  pointwise [startRows, rowsOf, lastPoint, points, fractions]
  split
  · have e0 : (0#32 : BitVec 32).toInt = 0 := by decide
    have e1 : (2047#32 : BitVec 32).toInt = 2047 := by decide
    have e2 : (BitVec.ofNat 32 c.val).toInt = (c.val : ℤ) := toInt_small c.val (by omega)
    rw [sitofp_coe, sitofp_coe, sitofp_coe, e0, e1, e2, nn_eq, Ideal.div_coe (by norm_num)]
    rw [show (((0 : ℤ) : ℝ) : EReal) = 0 by simp, zero_mul, zero_add, ← EReal.coe_mul, ← EReal.coe_mul]
    have m1 : 2047 * c.val / 99 * 99 ≤ 2047 * c.val := Nat.div_mul_le_self _ _
    have m2 : 2047 * c.val < (2047 * c.val / 99 + 1) * 99 := by omega
    have m1' : ((2047 * c.val / 99 : ℕ) : ℝ) * 99 ≤ 2047 * c.val := by exact_mod_cast m1
    have m2' : (2047 * c.val : ℝ) < (((2047 * c.val / 99 : ℕ) : ℝ) + 1) * 99 := by exact_mod_cast m2
    refine fptosi_floor _ (by omega) _ ?_ ?_
    · push_cast; linarith
    · push_cast; linarith
  · have e : 2047 * c.val / 99 = 2047 := by omega
    rw [e, sitofp_coe, show (2047#32 : BitVec 32).toInt = 2047 by decide]
    exact fptosi_floor 2047 le_rfl _ (by norm_num) (by norm_num)

/-- A starting row is not wrapped. -/
theorem wrapRows_apply (r : IVec S100 32) (c : Fin 100) (k : ℕ) (hk : k ≤ 2047) (h : r (ix1 c) = BitVec.ofNat 32 k) :
    wrapRows r (ix2 c 0) = BitVec.ofNat 32 k := by
  have e2 : (BitVec.ofNat 32 k).toInt = (k : ℤ) := toInt_small k hk
  have e : IntOp.cmpi .slt (BitVec.ofNat 32 k) 0#32 = 0#1 := by
    show BitVec.ofBool (BitVec.slt _ _) = _
    rw [BitVec.slt_eq_decide, e2]
    rw [show (0#32 : BitVec 32).toInt = 0 by decide, decide_eq_false (not_lt.2 (Int.natCast_nonneg k))]
    rfl
  pointwise [wrapRows]
  rw [h, e]
  simp [Scalar.select]

/-- The gather takes the rows named. -/
theorem gather_apply (cd : FVec Ideal S32x2048x32 .f32) (r : IVec S100x1 32) (g : Fin 32) (c : Fin 100) (j : Fin 32) (k : Fin 2048)
    (h : r (ix2 c 0) = BitVec.ofNat 32 k.val) :
    Host.gather gather_S32x2048x32_S100x1_S32x100x32_02_1_n_n_1_1_32132 cd r (ix3 g c j) = cd (ix3 g k j) := by
  have e2 : (BitVec.ofNat 32 k.val).toInt = (k.val : ℤ) := toInt_small k.val (by omega)
  unfold Host.gather
  congr 1
  funext a
  refine Fin.ext ?_
  show GatherDims.start _ _ r a + GatherDims.batchCoord _ _ a + GatherDims.offCoord _ _ a = _
  rw [GatherDims.batchCoord_eq_zero _ _ _ List.not_mem_nil, Nat.add_zero]
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    have hsi : GatherDims.siIdx gather_S32x2048x32_S100x1_S32x100x32_02_1_n_n_1_1_32132 (ix3 g c j) ⟨0, by decide⟩ = ix2 c 0 := by
      funext b
      match b with
      | ⟨0, _⟩ => rfl
      | ⟨1, _⟩ => rfl
    show min (r (GatherDims.siIdx gather_S32x2048x32_S100x1_S32x100x32_02_1_n_n_1_1_32132 (ix3 g c j) ⟨0, _⟩)).toInt.toNat 2047 = k.val
    rw [hsi, h, e2]
    have := k.isLt
    simp only [Int.toNat_natCast]
    omega
  · unfold GatherDims.start GatherDims.offCoord
    rw [dif_neg (by decide), dif_pos (by decide), Nat.zero_add]
    rfl

/-- The starting centroids are the codes at evenly spaced rows. -/
theorem cent0_apply (cd : FVec Ideal S32x2048x32 .f32) (g : Fin 32) (c : Fin 100) (j : Fin 32) :
    cent0 cd (ix3 g c j) = cd (ix3 g ⟨2047 * c.val / 99, by omega⟩ j) :=
  gather_apply cd _ g c j _ (wrapRows_apply _ c _ (by have := c.isLt; omega) (startRows_apply c))

end Cert.ReferenceIdeal.Terms

end
-- ==== Proof.HeadJoin.lean ====
module

public import proofs.«01_k».proof.Proof.KRead
public import proofs.«01_k».proof.Proof.RRead
public import proofs.«01_k».proof.Proof.RStart
public import proofs.«01_k».proof.Proof.RefRun

/-! One head of the attention kernel against the same head of the reference: the same codes, related centroids after every
    step, and so the same attention. -/

@[expose] public section

set_option maxRecDepth 16384

noncomputable section

namespace Cert.HeadJoin

open Cert Cert.Clusters Idealize.ShloMosaic Idealize.SL.Sem

open Cert.KernelIdeal in
/-- One step of the kernel's clustering at an entry. -/
theorem stepK (cd : FVec Ideal S2048x32 .f32) (ct : FVec Ideal S128x32 .f32) (c : Fin 128) (j : Fin 32) :
    Body.step cd ct (ix2 c j) = meanOf (fun n => oneAt (distK (fun n j => cd (ix2 n j)) (fun c j => ct (ix2 c j)) n) c) fun n => cd (ix2 n j) := by
  unfold Body.step
  rw [Body.means_apply]
  simp only [Body.memberOf_apply, Body.dist_apply]

open Cert.ReferenceIdeal in
/-- One step of the reference's clustering at an entry. -/
theorem stepR (cd : FVec Ideal S32x2048x32 .f32) (ct : FVec Ideal S32x100x32 .f32) (g : Fin 32) (c : Fin 100) (j : Fin 32) :
    Terms.step cd ct (ix3 g c j)
      = meanOf (fun n => oneAt (distR (fun n j => cd (ix3 g n j)) (fun c j => ct (ix3 g c j)) n) c) fun n => cd (ix3 g n j) := by
  unfold Terms.step
  rw [Terms.means_apply]
  simp only [Terms.memberOf_apply, Terms.dist_apply]

/-- A sign code is a matrix of signs. -/
theorem signs_of (p : Fin 2048 → Fin 32 → EReal) : Signs fun n j => if 0 < p n j then 1 else Ideal.ofBits .f32 0xBF800000#32 := by
  intro n j
  by_cases h : 0 < p n j
  · exact ⟨1, by simp [h], .inl rfl⟩
  · exact ⟨-1, by simp only [if_neg h, negOne_eq], .inr rfl⟩

section
variable (x0 x1 x2 : Vec Ideal KernelIdeal.S1x1x2048x64 .f32) (x3 : Vec Ideal KernelIdeal.S64x32 .f32) (x4 : Vec Ideal KernelIdeal.S128x1 .i32)
variable (q k v : FVec Ideal ReferenceIdeal.S32x2048x64 .f32) (pl : FVec Ideal ReferenceIdeal.S64x32 .f32) (g : Fin 32)

/-- The kernel's table of starting rows: evenly spaced rows for the clusters, no row for the padding. -/
structure Table (x4 : Vec Ideal KernelIdeal.S128x1 .i32) : Prop where
  row : ∀ c : Fin 100, x4 (ix2 (real c) 0) = BitVec.ofNat 32 (2047 * c.val / 99)
  none : ∀ c : Fin 128, 100 ≤ c.val → x4 (ix2 c 0) = 0xFFFFFFFF#32

variable {x0 x1 x2 x3 x4 q k v pl g}

/-- The same codes. -/
theorem codes_same (hq : ∀ n d, x0 (ix4 0 0 n d) = q (ix3 g n d)) (hp : ∀ d b, x3 (ix2 d b) = pl (ix2 d b)) (n : Fin 2048) (b : Fin 32) :
    KernelIdeal.Body.codes x0 x3 (ix2 n b) = ReferenceIdeal.Terms.codes q pl (ix3 g n b) := by
  rw [KernelIdeal.Body.codes_apply, ReferenceIdeal.Terms.codes_apply]
  simp only [hq, hp]

/-- The codes are signs. -/
theorem codes_signs : Signs fun n j => ReferenceIdeal.Terms.codes q pl (ix3 g n j) := by
  simp only [ReferenceIdeal.Terms.codes_apply]
  exact signs_of fun n j => ∑ x, q (ix3 g n x) * pl (ix2 x j)

theorem ofNat_eq_iff (a b : Nat) (ha : a < 2048) (hb : b < 2048) : BitVec.ofNat 32 a = BitVec.ofNat 32 b ↔ a = b := by
  rw [← BitVec.toNat_inj, BitVec.toNat_ofNat, BitVec.toNat_ofNat, Nat.mod_eq_of_lt (by omega), Nat.mod_eq_of_lt (by omega)]

theorem ofNat_ne_pad (a : Nat) (ha : a < 2048) : BitVec.ofNat 32 a ≠ 0xFFFFFFFF#32 := by
  rw [Ne, ← BitVec.toNat_inj, BitVec.toNat_ofNat, Nat.mod_eq_of_lt (by omega)]
  have : (0xFFFFFFFF#32).toNat = 4294967295 := rfl
  omega

/-- The centroids stay related through every step. -/
theorem rel (hq : ∀ n d, x0 (ix4 0 0 n d) = q (ix3 g n d)) (hp : ∀ d b, x3 (ix2 d b) = pl (ix2 d b)) (ht : Table x4) (m : Nat) :
    Rel (fun c j => KernelIdeal.Body.cents (KernelIdeal.Body.codes x0 x3) (KernelIdeal.Body.start x0 x3 x4) m (ix2 c j))
      (fun c j => ReferenceIdeal.Parts.cents (ReferenceIdeal.Terms.codes q pl) m (ix3 g c j)) := by
  have hcd : (fun n j => KernelIdeal.Body.codes x0 x3 (ix2 n j)) = fun n j => ReferenceIdeal.Terms.codes q pl (ix3 g n j) :=
    funext fun n => funext fun j => codes_same hq hp n j
  induction m with
  | zero =>
    have := Rel.start (codes_signs (q := q) (pl := pl) (g := g)) (fun c => ⟨2047 * c.val / 99, by omega⟩)
      (fun c n => if BitVec.ofNat 32 n.val = x4 (ix2 c 0) then 1 else 0)
      (fun c n => by
        rw [ht.row c]
        exact if_congr ((ofNat_eq_iff _ _ n.isLt (by omega)).trans (by rw [Fin.ext_iff])) rfl rfl)
      (fun p n hp => by rw [ht.none p hp]; exact if_neg (ofNat_ne_pad _ n.isLt))
    unfold KernelIdeal.Body.cents ReferenceIdeal.Parts.cents
    simp only [KernelIdeal.Body.start_apply, ReferenceIdeal.Terms.cent0_apply, codes_same hq hp]
    exact this
  | succ m ih =>
    have := Rel.step (codes_signs (q := q) (pl := pl) (g := g)) ih
    unfold KernelIdeal.Body.cents ReferenceIdeal.Parts.cents
    simp only [stepK, stepR, hcd]
    simp only [codes_same hq hp]
    exact this

/-- The attention kernel's head is the reference's. -/
theorem head_same (hq : ∀ n d, x0 (ix4 0 0 n d) = q (ix3 g n d)) (hk : ∀ n d, x1 (ix4 0 0 n d) = k (ix3 g n d)) (hv : ∀ n d, x2 (ix4 0 0 n d) = v (ix3 g n d))
    (hp : ∀ d b, x3 (ix2 d b) = pl (ix2 d b)) (ht : Table x4) (q' k' v' : FVec Ideal KernelIdeal.S2048x64 .f32)
    (hq' : ∀ n d, q' (ix2 n d) = x0 (ix4 0 0 n d)) (hk' : ∀ n d, k' (ix2 n d) = x1 (ix4 0 0 n d)) (hv' : ∀ n d, v' (ix2 n d) = x2 (ix4 0 0 n d))
    (n : Fin 2048) (j : Fin 64) :
    KernelIdeal.Body.attend (KernelIdeal.Body.memberOf (KernelIdeal.Body.dist (KernelIdeal.Body.codes x0 x3)
      (KernelIdeal.Body.cents (KernelIdeal.Body.codes x0 x3) (KernelIdeal.Body.start x0 x3 x4) 9))) q' k' v' (ix2 n j)
      = ReferenceIdeal.Parts.clustered q k v (ReferenceIdeal.Terms.codes q pl) (ix3 g n j) := by
  have hcd : (fun n j => KernelIdeal.Body.codes x0 x3 (ix2 n j)) = fun n j => ReferenceIdeal.Terms.codes q pl (ix3 g n j) :=
    funext fun n => funext fun j => codes_same hq hp n j
  unfold ReferenceIdeal.Parts.clustered
  rw [KernelIdeal.Body.attend_apply, ReferenceIdeal.Terms.attend_apply]
  simp only [KernelIdeal.Body.memberOf_apply, KernelIdeal.Body.dist_apply, ReferenceIdeal.Terms.memberOf_apply, ReferenceIdeal.Terms.dist_apply, hcd,
    hq', hk', hv', hq, hk, hv]
  exact attend_same codes_signs (rel hq hp ht 9) _ _ _ n j

end

end Cert.HeadJoin

end
-- ==== Proof.HeadTiles.lean ====
module

public import proofs.«01_k».proof.Proof.HeadJoin
public import Idealize.ShloMosaic.Lib.Pipeline.ValueKit

/-! The attention call: one head per grid point, and its result array against the reference's attention. -/

@[expose] public section

set_option maxRecDepth 16384

noncomputable section

namespace Cert.KernelIdeal.Tiles

open Cert.KernelIdeal Cert.KernelIdeal.Gen Cert.HeadJoin Idealize.ShloMosaic Idealize.ShloMosaic.TcCoe Idealize.SL.Sem
open Idealize.ShloMosaic.Pipeline (Dat)

/-- Where each block of the attention call lies. -/
theorem place1 : ∀ t : Fin cfg1.N, win1_0.index t = ![t.val / 16, t.val % 16, 0, 0] ∧ win1_1.index t = ![t.val / 16, t.val % 16, 0, 0]
    ∧ win1_2.index t = ![t.val / 16, t.val % 16, 0, 0] ∧ win1_3.index t = ![0, 0] ∧ win1_4.index t = ![0, 0]
    ∧ win1_5.index t = ![t.val / 16, t.val % 16, 0, 0] ∧ t.val < 32 :=
  (by decide +kernel : ∀ t : Fin grid1.N, _)

/-- The heads of both batch entries numbered through. -/
def flat (y : FVec Ideal S2x16x2048x64 .f32) : FVec Ideal ReferenceIdeal.S32x2048x64 .f32 :=
  fun i => y (ix4 ⟨(i 0).val / 16, by have : (i 0).val < 32 := (i 0).isLt; omega⟩ ⟨(i 0).val % 16, by omega⟩ (i 1) (i 2))

/-- A numbered head read at its number. -/
theorem flat_apply (y : FVec Ideal S2x16x2048x64 .f32) (g : Fin 32) (n : Fin 2048) (d : Fin 64) :
    flat y (ix3 g n d) = y (ix4 ⟨g.val / 16, by omega⟩ ⟨g.val % 16, by omega⟩ n d) := rfl

/-- The attention of the heads `q`, `k`, `v` under the planes `pl`, a head for each batch entry and head number. -/
def attention (q k v : FVec Ideal S2x16x2048x64 .f32) (pl : FVec Ideal S64x32 .f32) : FVec Ideal S2x16x2048x64 .f32 :=
  fun i => ReferenceIdeal.Parts.clustered (flat q) (flat k) (flat v) (ReferenceIdeal.Terms.codes (flat q) pl)
    (ix3 ⟨(i 0).val * 16 + (i 1).val, by have h0 : (i 0).val < 2 := (i 0).isLt; have h1 : (i 1).val < 16 := (i 1).isLt; omega⟩ (i 2) (i 3))

/-- A block of the queries, keys or values loaded whole and with its unit axes dropped. -/
theorem load_q (x : Vec Ideal S1x1x2048x64 .f32) (n : Fin 2048) (d : Fin 64) : k1_pay2 (View.ld x r1_0) (ix2 n d) = x (ix4 0 0 n d) := by
  pointwise [k1_pay2]
theorem load_k (x : Vec Ideal S1x1x2048x64 .f32) (n : Fin 2048) (d : Fin 64) : k1_pay3 (View.ld x r1_0) (ix2 n d) = x (ix4 0 0 n d) := by
  pointwise [k1_pay3]
theorem load_v (x : Vec Ideal S1x1x2048x64 .f32) (n : Fin 2048) (d : Fin 64) : k1_pay4 (View.ld x r1_0) (ix2 n d) = x (ix4 0 0 n d) := by
  pointwise [k1_pay4]
/-- A head stored with its unit axes. -/
theorem store_o (x : FVec Ideal S2048x64 .f32) (a b : Fin 1) (n : Fin 2048) (d : Fin 64) : k1_pay1 x (ix4 a b n d) = x (ix2 n d) := by
  pointwise [k1_pay1]

/-- What one grid point stores, read at an index. -/
theorem out1_5_apply (x0 x1 x2 : Vec Ideal S1x1x2048x64 .f32) (x3 : Vec Ideal S64x32 .f32) (x4 : Vec Ideal S128x1 .i32) (a b : Fin 1) (n : Fin 2048) (d : Fin 64) :
    out1_5 x0 x1 x2 x3 x4 (ix4 a b n d) = Body.attend (Body.memberOf (Body.dist (Body.codes x0 x3) (Body.cents (Body.codes x0 x3) (Body.start x0 x3 x4) 9)))
      (k1_pay2 (View.ld x0 r1_0)) (k1_pay3 (View.ld x1 r1_0)) (k1_pay4 (View.ld x2 r1_0)) (ix2 n d) := by
  rw [Body.out1_5_eq, View.canon_unit_zero (by decide)]
  exact store_o _ a b n d

/-- One grid point stores the attention of its head. -/
theorem out1_5_head (x0 x1 x2 : Vec Ideal S1x1x2048x64 .f32) (x3 : Vec Ideal S64x32 .f32) (x4 : Vec Ideal S128x1 .i32)
    (q k v : FVec Ideal S2x16x2048x64 .f32) (pl : FVec Ideal S64x32 .f32) (g : Fin 32)
    (hq : ∀ n d, x0 (ix4 0 0 n d) = flat q (ix3 g n d)) (hk : ∀ n d, x1 (ix4 0 0 n d) = flat k (ix3 g n d)) (hv : ∀ n d, x2 (ix4 0 0 n d) = flat v (ix3 g n d))
    (hp : ∀ d b, x3 (ix2 d b) = pl (ix2 d b)) (ht : Table x4) (a b : Fin 1) (n : Fin 2048) (d : Fin 64) :
    out1_5 x0 x1 x2 x3 x4 (ix4 a b n d)
      = ReferenceIdeal.Parts.clustered (flat q) (flat k) (flat v) (ReferenceIdeal.Terms.codes (flat q) pl) (ix3 g n d) :=
  (out1_5_apply x0 x1 x2 x3 x4 a b n d).trans (head_same hq hk hv hp ht _ _ _ (load_q x0) (load_k x1) (load_v x2) n d)

variable (V : (c : Dev nD) → (b : Ref sig .tc) → Buf (Elt Ideal) ((c.tc : Thread nD τ).loc b))

/-- The attention call's result. -/
theorem final_attention (c : Dev nD) (ht : Table (V c main_c)) :
    (dat1 V c).arrAt 5 cfg1.N = attention (V c main_v6) (V c main_v8) (V c main_v10) (V c main_arg10) := by
  refine (dat1 V c).arrAt_eq_of_covers 5 _ (by decide +kernel) fun t _ y => ?_
  blk_simp
  rw [after1_5]
  have hlt := (place1 t).2.2.2.2.2.2
  idx_vars y
  refine (out1_5_head _ _ _ _ _ (V c main_v6) (V c main_v8) (V c main_v10) (V c main_arg10) ⟨t.val, hlt⟩ ?_ ?_ ?_ ?_ ?_ _ _ _ _).trans ?_
  · intro n d; rw [flat_apply]; blk_ext [iblk1, place1 t]
  · intro n d; rw [flat_apply]; blk_ext [iblk1, place1 t]
  · intro n d; rw [flat_apply]; blk_ext [iblk1, place1 t]
  · intro d b; blk_ext [iblk1, place1 t]
  · have e : iblk1 V c 4 t = V c main_c := by blk_ext! [iblk1, place1 t]
    rw [e]; exact ht
  · blk_point [attention, place1 t]

end Cert.KernelIdeal.Tiles

end
-- ==== Proof.KernelTerms.lean ====
module

public import proofs.«01_k».proof.Proof.DenseTiles
public import proofs.«01_k».proof.Proof.HeadTiles

/-! The kernel's whole result as one expression of its arguments, and its equality with the reference's. -/

@[expose] public section

set_option maxRecDepth 16384

noncomputable section

namespace Cert.KernelIdeal.Tiles

open Cert.KernelIdeal Cert.KernelIdeal.Gen Cert.HeadJoin Idealize.ShloMosaic Idealize.SL.Sem Idealize.ShloMosaic.StableHlo

/-- The rows of both batch entries, one under the other. -/
def rows (x : FVec Ideal S2x2048x1024 .f32) : FVec Ideal S4096x1024 .f32 := shapeCast S4096x1024 x shapeCasts_S2x2048x1024_S4096x1024

/-- A bias as a row. -/
def row (b : FVec Ideal S1024 .f32) : FVec Ideal S1x1024 .f32 := shapeCast S1x1024 b shapeCasts_S1024_S1x1024

/-- Rows cut into heads. -/
def split (y : FVec Ideal S4096x1024 .f32) : FVec Ideal S2x16x2048x64 .f32 :=
  transpose S2x16x2048x64 [0, 2, 1, 3] (shapeCast S2x2048x16x64 y shapeCasts_S4096x1024_S2x2048x16x64) transposes_S2x2048x16x64_S2x16x2048x64_0_2_1_3

/-- Heads put back side by side. -/
def merge (o : FVec Ideal S2x16x2048x64 .f32) : FVec Ideal S4096x1024 .f32 :=
  shapeCast S4096x1024 (transpose S2x2048x16x64 [0, 2, 1, 3] o transposes_S2x16x2048x64_S2x2048x16x64_0_2_1_3) shapeCasts_S2x2048x16x64_S4096x1024

/-- The rows parted by batch entry again. -/
def unrows (y : FVec Ideal S4096x1024 .f32) : FVec Ideal S2x2048x1024 .f32 := shapeCast S2x2048x1024 y shapeCasts_S4096x1024_S2x2048x1024

theorem rows_apply (x : FVec Ideal S2x2048x1024 .f32) (r : Fin 4096) (j : Fin 1024) :
    rows x (ix2 r j) = x (ix3 ⟨r.val / 2048, by omega⟩ ⟨r.val % 2048, by omega⟩ j) := by
  pointwise [rows]

theorem row_apply (b : FVec Ideal S1024 .f32) (i : Fin 1) (j : Fin 1024) : row b (ix2 i j) = b (ix1 j) := by
  pointwise [row]

theorem split_apply (y : FVec Ideal S4096x1024 .f32) (b : Fin 2) (h : Fin 16) (n : Fin 2048) (d : Fin 64) :
    split y (ix4 b h n d) = y (ix2 ⟨b.val * 2048 + n.val, by omega⟩ ⟨h.val * 64 + d.val, by omega⟩) := by
  pointwise [split]

theorem merge_apply (o : FVec Ideal S2x16x2048x64 .f32) (r : Fin 4096) (j : Fin 1024) :
    merge o (ix2 r j) = o (ix4 ⟨r.val / 2048, by omega⟩ ⟨j.val / 64, by omega⟩ ⟨r.val % 2048, by omega⟩ ⟨j.val % 64, by omega⟩) := by
  pointwise [merge]

theorem unrows_apply (y : FVec Ideal S4096x1024 .f32) (b : Fin 2) (n : Fin 2048) (j : Fin 1024) :
    unrows y (ix3 b n j) = y (ix2 ⟨b.val * 2048 + n.val, by omega⟩ j) := by
  pointwise [unrows]

/-- A product with a bias read at an index. -/
theorem linear_apply (x : FVec Ideal S4096x1024 .f32) (w : FVec Ideal S1024x1024 .f32) (b : FVec Ideal S1x1024 .f32) (r : Fin 4096) (j : Fin 1024) :
    linear x w b (ix2 r j) = (∑ k : Fin 1024, x (ix2 r k) * w (ix2 k j)) + b (ix2 0 j) := rfl

/-- The attention read at an index. -/
theorem attention_apply (q k v : FVec Ideal S2x16x2048x64 .f32) (pl : FVec Ideal S64x32 .f32) (b : Fin 2) (h : Fin 16) (n : Fin 2048) (d : Fin 64) :
    attention q k v pl (ix4 b h n d) = ReferenceIdeal.Parts.clustered (flat q) (flat k) (flat v) (ReferenceIdeal.Terms.codes (flat q) pl)
      (ix3 ⟨b.val * 16 + h.val, by omega⟩ n d) := rfl

/-- A row of both entries' rows, at its own entry. -/
theorem rows_at (x : FVec Ideal S2x2048x1024 .f32) (b : Fin 2) (n : Fin 2048) (j : Fin 1024) :
    rows x (ix2 ⟨b.val * 2048 + n.val, by omega⟩ j) = x (ix3 b n j) := by
  rw [rows_apply]; blk_ext

/-- The projections' heads are the reference's. -/
theorem heads_same (x : FVec Ideal S2x2048x1024 .f32) (w : FVec Ideal S1024x1024 .f32) (b : FVec Ideal S1024 .f32) :
    flat (split (linear (rows x) w (row b))) = ReferenceIdeal.Terms.heads (ReferenceIdeal.Terms.dense x w b) := by
  funext i
  obtain ⟨g, n, d, rfl⟩ : ∃ g n d, i = ix3 g n d := ⟨i 0, i 1, i 2, eq_ix3 i⟩
  refine ((flat_apply _ g n d).trans (split_apply _ _ _ n d)).trans (Eq.trans ?_ (ReferenceIdeal.Terms.heads_apply _ g n d).symm)
  rw [linear_apply, ReferenceIdeal.Terms.dense_apply, row_apply]
  congr 1
  refine Finset.sum_congr rfl fun k _ => ?_
  rw [rows_at]

/-- Heads put back and projected are the reference's output projection. -/
theorem outputs_same (o : FVec Ideal S2x16x2048x64 .f32) (o' : FVec Ideal ReferenceIdeal.S32x2048x64 .f32)
    (ho : ∀ (b : Fin 2) (h : Fin 16) (n : Fin 2048) (d : Fin 64), o (ix4 b h n d) = o' (ix3 ⟨b.val * 16 + h.val, by omega⟩ n d))
    (w : FVec Ideal S1024x1024 .f32) (c : FVec Ideal S1024 .f32) :
    unrows (linear (merge o) w (row c)) = ReferenceIdeal.Terms.dense (ReferenceIdeal.Terms.unheads o') w c := by
  funext i
  obtain ⟨b, n, j, rfl⟩ : ∃ b n j, i = ix3 b n j := ⟨i 0, i 1, i 2, eq_ix3 i⟩
  refine (unrows_apply _ b n j).trans (Eq.trans ?_ (ReferenceIdeal.Terms.dense_apply _ w c b n j).symm)
  rw [linear_apply, row_apply]
  congr 1
  refine Finset.sum_congr rfl fun k _ => ?_
  rw [ReferenceIdeal.Terms.unheads_apply, merge_apply, ho]
  congr 1
  blk_ext

/-- The kernel's result. -/
def value (x : FVec Ideal S2x2048x1024 .f32) (wq wk wv wo : FVec Ideal S1024x1024 .f32) (bq bk bv bo : FVec Ideal S1024 .f32)
    (pl : FVec Ideal S64x32 .f32) : FVec Ideal S2x2048x1024 .f32 :=
  unrows (linear (merge (attention (split (linear (rows x) wq (row bq))) (split (linear (rows x) wk (row bk))) (split (linear (rows x) wv (row bv))) pl)) wo (row bo))

/-- The kernel's result is the reference's. -/
theorem value_same (x : FVec Ideal S2x2048x1024 .f32) (wq wk wv wo : FVec Ideal S1024x1024 .f32) (bq bk bv bo : FVec Ideal S1024 .f32)
    (pl : FVec Ideal S64x32 .f32) : value x wq wk wv wo bq bk bv bo pl = ReferenceIdeal.Parts.result x wq wk wv wo bq bk bv bo pl := by
  unfold value ReferenceIdeal.Parts.result
  refine outputs_same _ _ (fun b h n d => ?_) wo bo
  rw [attention_apply, heads_same, heads_same, heads_same]

/-- The starting rows written out in the kernel. -/
theorem table : Table (fun i => lit0 (S128x1.rowMajor i)) where
  row := by decide +kernel
  none := by decide +kernel

/-- What the host does before the first call. -/
theorem host0 (A : Valuation τ sig (Elt Ideal)) :
    after hostOps0 A (Proc.devRef .tc main_c) = (fun i => lit0 (S128x1.rowMajor i))
    ∧ after hostOps0 A (Proc.devRef .tc main_v0) = rows (A (Proc.devRef .tc main_arg0))
    ∧ after hostOps0 A (Proc.devRef .tc main_v1) = row (A (Proc.devRef .tc main_arg3))
    ∧ after hostOps0 A (Proc.devRef .tc main_v2) = row (A (Proc.devRef .tc main_arg5))
    ∧ after hostOps0 A (Proc.devRef .tc main_v3) = row (A (Proc.devRef .tc main_arg7)) := by
  refine ⟨?_, ?_, ?_, ?_, ?_⟩ <;> after_reads_simp <;> rfl

/-- Between the first call and the second. -/
theorem host1 (A : Valuation τ sig (Elt Ideal)) :
    after hostOps1 A (Proc.devRef .tc main_v6) = split (A (Proc.devRef .tc main_v4_0))
    ∧ after hostOps1 A (Proc.devRef .tc main_v8) = split (A (Proc.devRef .tc main_v4_1))
    ∧ after hostOps1 A (Proc.devRef .tc main_v10) = split (A (Proc.devRef .tc main_v4_2)) := by
  refine ⟨?_, ?_, ?_⟩ <;> after_reads_simp <;> rfl

/-- Between the second call and the third. -/
theorem host2 (A : Valuation τ sig (Elt Ideal)) :
    after hostOps2 A (Proc.devRef .tc main_v13) = merge (A (Proc.devRef .tc main_v11))
    ∧ after hostOps2 A (Proc.devRef .tc main_v14) = row (A (Proc.devRef .tc main_arg9)) := by
  refine ⟨?_, ?_⟩ <;> after_reads_simp <;> rfl

/-- After the third call. -/
theorem host3 (A : Valuation τ sig (Elt Ideal)) :
    after hostOps3 A (Proc.devRef .tc main_v16) = unrows (A (Proc.devRef .tc main_v15)) := by
  after_reads_simp; rfl

end Cert.KernelIdeal.Tiles

end
-- ==== Proof.KernelRun.lean ====
module

public import proofs.«01_k».proof.Proof.KernelTerms

/-! The kernel's run: what its result buffer holds at the end, besides its arguments as launched. -/

@[expose] public section

set_option maxRecDepth 16384

noncomputable section

namespace Cert.KernelIdeal.Tiles

open Cert.KernelIdeal Cert.KernelIdeal.Gen Cert.HeadJoin
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the segments: the result buffer ends at the last boundary's contents, the arguments end as launched,
    every counter at zero. -/
theorem run : θ_run defs (onTc (τ := τ) (main (F := F))) ⟨m, fun _ => 0, ρ⟩ (fun r => (∀ c : Dev nD,
      r.2.mem ((c.tc : Thread nD τ).loc main_v16) = W7 m ρ c (Proc.devRef .tc main_v16) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v16 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩), funext fun g => hz g (.inr (no_unscoped g.2))⟩)

end Launch

variable (m : (ℓ : Loc nD τ sig) → Buf (Elt Ideal) ℓ) (ρ : Dev nD → PrngReg)

/-- What the first call leaves, for its own reads' contents. -/
theorem after_first (c : Dev nD) :
    W2 m ρ c (Proc.devRef .tc main_v4_0) = linear (rows (m ((c.tc : Thread nD τ).loc main_arg0))) (m ((c.tc : Thread nD τ).loc main_arg2)) (row (m ((c.tc : Thread nD τ).loc main_arg3)))
    ∧ W2 m ρ c (Proc.devRef .tc main_v4_1) = linear (rows (m ((c.tc : Thread nD τ).loc main_arg0))) (m ((c.tc : Thread nD τ).loc main_arg4)) (row (m ((c.tc : Thread nD τ).loc main_arg5)))
    ∧ W2 m ρ c (Proc.devRef .tc main_v4_2) = linear (rows (m ((c.tc : Thread nD τ).loc main_arg0))) (m ((c.tc : Thread nD τ).loc main_arg6)) (row (m ((c.tc : Thread nD τ).loc main_arg7))) := by
  obtain ⟨-, h0, h1, h2, h3⟩ := host0 (W0 m ρ c)
  have ha := W1_args m ρ c
  refine ⟨((W2_arr m ρ c 7).trans (final_q (V1 m ρ) c)).trans ?_, ((W2_arr m ρ c 8).trans (final_k (V1 m ρ) c)).trans ?_,
    ((W2_arr m ρ c 9).trans (final_v (V1 m ρ) c)).trans ?_⟩
  · rw [show V1 m ρ c main_v0 = _ from h0, show V1 m ρ c main_v1 = _ from h1, show V1 m ρ c main_arg2 = _ from ha main_arg2 (by decide)]
  · rw [show V1 m ρ c main_v0 = _ from h0, show V1 m ρ c main_v2 = _ from h2, show V1 m ρ c main_arg4 = _ from ha main_arg4 (by decide)]
  · rw [show V1 m ρ c main_v0 = _ from h0, show V1 m ρ c main_v3 = _ from h3, show V1 m ρ c main_arg6 = _ from ha main_arg6 (by decide)]

/-- The table of starting rows when the second call is entered. -/
theorem table_kept (c : Dev nD) : V3 m ρ c main_c = (fun i => lit0 (S128x1.rowMajor i)) :=
  ((W3_of m ρ c main_c (by decide)).trans (W2_of m ρ c main_c (by decide))).trans (host0 (W0 m ρ c)).1

/-- What the second call leaves. -/
theorem after_second (c : Dev nD) :
    W4 m ρ c (Proc.devRef .tc main_v11) = attention (split (W2 m ρ c (Proc.devRef .tc main_v4_0))) (split (W2 m ρ c (Proc.devRef .tc main_v4_1)))
      (split (W2 m ρ c (Proc.devRef .tc main_v4_2))) (m ((c.tc : Thread nD τ).loc main_arg10)) := by
  obtain ⟨h6, h8, h10⟩ := host1 (W2 m ρ c)
  refine ((W4_arr m ρ c 5).trans (final_attention (V3 m ρ) c (by rw [table_kept]; exact table))).trans ?_
  rw [show V3 m ρ c main_v6 = _ from h6, show V3 m ρ c main_v8 = _ from h8, show V3 m ρ c main_v10 = _ from h10,
    show V3 m ρ c main_arg10 = _ from W3_args m ρ c main_arg10 (by decide)]

/-- What the third call leaves. -/
theorem after_third (c : Dev nD) :
    W6 m ρ c (Proc.devRef .tc main_v15) = linear (merge (W4 m ρ c (Proc.devRef .tc main_v11))) (m ((c.tc : Thread nD τ).loc main_arg8))
      (row (m ((c.tc : Thread nD τ).loc main_arg9))) := by
  obtain ⟨h13, h14⟩ := host2 (W4 m ρ c)
  refine ((W6_arr m ρ c 3).trans (final_o (V5 m ρ) c)).trans ?_
  rw [show V5 m ρ c main_v13 = _ from h13, show V5 m ρ c main_v14 = _ from h14, show V5 m ρ c main_arg8 = _ from W5_args m ρ c main_arg8 (by decide),
    W4_args m ρ c main_arg9 (by decide)]

/-- The result buffer at the end. -/
theorem result_end (c : Dev nD) :
    W7 m ρ c (Proc.devRef .tc main_v16) = value (m ((c.tc : Thread nD τ).loc main_arg0)) (m ((c.tc : Thread nD τ).loc main_arg2))
      (m ((c.tc : Thread nD τ).loc main_arg4)) (m ((c.tc : Thread nD τ).loc main_arg6)) (m ((c.tc : Thread nD τ).loc main_arg8))
      (m ((c.tc : Thread nD τ).loc main_arg3)) (m ((c.tc : Thread nD τ).loc main_arg5)) (m ((c.tc : Thread nD τ).loc main_arg7))
      (m ((c.tc : Thread nD τ).loc main_arg9)) (m ((c.tc : Thread nD τ).loc main_arg10)) := by
  obtain ⟨hq, hk, hv⟩ := after_first m ρ c
  refine (host3 (W6 m ρ c)).trans ?_
  rw [after_third, after_second, hq, hk, hv]
  rfl

end Cert.KernelIdeal.Tiles

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.KernelRun
public import Idealize.ShloMosaic.Adequacy
public import Idealize.ShloMosaic.Init

@[expose] public section

noncomputable section

namespace Cert.Proof

open Idealize.ShloMosaic Idealize.SL.Sem Cert.Kernel

/-- The reference's frame: its arguments end unchanged and it has no semaphore. -/
theorem frame_reference : Cert.quiescent_ReferenceIdeal := by
  intro m g _
  refine θ_run_mono (Cert.ReferenceIdeal.Parts.run m g) fun r h => ⟨fun c => ?_, h.2⟩
  simpa only [List.forall_mem_cons, List.not_mem_nil, false_implies, implies_true, and_true] using (h.1 c).2

/-- The kernel and the reference end at the same result over the extended reals. -/
theorem same_value : Cert.algebraic_KernelIdeal_ReferenceIdeal := by
  intro m g m' g' _ hag
  refine ⟨fun c => Cert.KernelIdeal.Gen.W7 m g c (Proc.devRef .tc Cert.KernelIdeal.main_v16),
    θ_run_mono (Cert.KernelIdeal.Tiles.run m g) fun r h => h.1, θ_run_mono (Cert.ReferenceIdeal.Parts.run m' g') fun r h c => ⟨?_, ?_⟩⟩
  · obtain ⟨e0, -, e2, e3, e4, e5, e6, e7, e8, e9, e10⟩ := hag c
    refine (h.1 c).1.trans ?_
    rw [e0, e2, e3, e4, e5, e6, e7, e8, e9, e10]
    exact ((Cert.KernelIdeal.Tiles.result_end m g c).trans (Cert.KernelIdeal.Tiles.value_same _ _ _ _ _ _ _ _ _ _)).symm
  · simpa only [List.forall_mem_cons, List.not_mem_nil, false_implies, implies_true, and_true] using (h.1 c).2

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, same_value⟩

end Cert.Proof

end
